-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_max_finite [hPre_row_max_finite : Cert.Pre_row_max_finite.Facts] (m : (ℓ : Loc Cert.KernelIdeal.nD Cert.KernelIdeal.τ Cert.KernelIdeal.sig) → Buf (Elt Ideal) ℓ) : Prop :=
  ∀ c : Dev Cert.KernelIdeal.nD,
    (Cert.Pre_row_max_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_max_finite [hPre_row_max_finite : Cert.Pre_row_max_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_max_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_row_max_finite [hKernelIdeal : Cert.KernelIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_max_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_row_max_finite [hReferenceIdeal : Cert.ReferenceIdeal.Facts] [hPre_row_max_finite : Cert.Pre_row_max_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_max_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_row_max_finite [hKernelIdeal : Cert.KernelIdeal.Facts] [hReferenceIdeal : Cert.ReferenceIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_max_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_row_max_finite : Cert.Pre_row_max_finite.Facts),
    quiescent_Kernel (hKernel := hKernel)
    ∧ quiescent_KernelIdeal (hKernelIdeal := hKernelIdeal)
    ∧ quiescent_KernelIdeal_pre_row_max_finite (hKernelIdeal := hKernelIdeal) (hPre_row_max_finite := hPre_row_max_finite)
    ∧ quiescent_ReferenceIdeal (hReferenceIdeal := hReferenceIdeal)
    ∧ quiescent_ReferenceIdeal_pre_row_max_finite (hReferenceIdeal := hReferenceIdeal) (hPre_row_max_finite := hPre_row_max_finite)
    ∧ preserves_Kernel_KernelIdeal
    ∧ algebraic_KernelIdeal_ReferenceIdeal_pre_row_max_finite (hKernelIdeal := hKernelIdeal) (hReferenceIdeal := hReferenceIdeal) (hPre_row_max_finite := hPre_row_max_finite)
-- ==== Pre_row_max_finite.lean ====
abbrev S1024x100000 : Shape := ⟨2, ![1024, 100000]⟩
abbrev S1024 : Shape := ⟨1, ![1024]⟩
abbrev S_ : Shape := ⟨0, ![]⟩

class Facts : Prop where
  reducesTo_S1024x100000_S1024_d1 : S1024x100000.ReducesTo [1] S1024
  h_S_ : 0 < S_.numel
  bcast_S_S1024 : S_.BroadcastsInDim S1024 (![] : Fin 0 → Fin S1024.rank)

variable [Facts]

def fn {F : FTy → Type} [FloatOps F] (main_arg0 : FVec F S1024x100000 .f32) (main_arg1 : FVec F S1024 .f32) : IVec S1024 1 :=
  let main_cst : FVec F S_ .f32 := constant S_ .f32 0xFF800000#32
  let main_v0 : FVec F S1024 .f32 := (fun x v => Host.reduce FloatOps.maximumf x v reducesTo_S1024x100000_S1024_d1 h_S_) main_arg0 main_cst
  let main_cst_0 : FVec F S_ .f32 := constant S_ .f32 0xFF800000#32
  let main_v1 : FVec F S1024 .f32 := broadcastInDim S1024 ![] bcast_S_S1024 main_cst_0
  let main_v2 : IVec S1024 1 := cmpf .ogt main_v0 main_v1
  let main_cst_1 : FVec F S_ .f32 := constant S_ .f32 0x7F800000#32
  let main_v3 : FVec F S1024 .f32 := broadcastInDim S1024 ![] bcast_S_S1024 main_cst_1
  let main_v4 : IVec S1024 1 := cmpf .olt main_v0 main_v3
  let main_v5 : IVec S1024 1 := andi main_v2 main_v4
  main_v5
-- ==== Kernel.lean ====
abbrev S1024x100000 : Shape := ⟨2, ![1024, 100000]⟩
abbrev S1024 : Shape := ⟨1, ![1024]⟩
abbrev S1024x1 : Shape := ⟨2, ![1024, 1]⟩
abbrev S1024x2 : Shape := ⟨2, ![1024, 2]⟩
abbrev S8x100352 : Shape := ⟨2, ![8, 100352]⟩
abbrev S8x1 : Shape := ⟨2, ![8, 1]⟩
abbrev S8x2 : Shape := ⟨2, ![8, 2]⟩
abbrev S8x512 : Shape := ⟨2, ![8, 512]⟩
abbrev S8 : Shape := ⟨1, ![8]⟩

abbrev nBuf : Space → Nat
  | .hbm => 6
  | .vmem => 8
  | .smem => 0
  | _ => 0

abbrev bufTy : (tb : Table) → Fin (tcTables nBuf tb) → BufTy
  | .hbm, ⟨0, _⟩ => ⟨S1024x100000, .f32⟩
  | .hbm, ⟨1, _⟩ => ⟨S1024, .f32⟩
  | .hbm, ⟨2, _⟩ => ⟨S1024x1, .f32⟩
  | .hbm, ⟨3, _⟩ => ⟨S1024x2, .i32⟩
  | .hbm, ⟨4, _⟩ => ⟨S1024x1, .f32⟩
  | .hbm, ⟨5, _⟩ => ⟨S1024, .f32⟩
  | .local _ .vmem, ⟨0, _⟩ => ⟨S8x100352, .f32⟩
  | .local _ .vmem, ⟨1, _⟩ => ⟨S8x100352, .f32⟩
  | .local _ .vmem, ⟨2, _⟩ => ⟨S8x1, .f32⟩
  | .local _ .vmem, ⟨3, _⟩ => ⟨S8x1, .f32⟩
  | .local _ .vmem, ⟨4, _⟩ => ⟨S8x2, .i32⟩
  | .local _ .vmem, ⟨5, _⟩ => ⟨S8x2, .i32⟩
  | .local _ .vmem, ⟨6, _⟩ => ⟨S8x1, .f32⟩
  | .local _ .vmem, ⟨7, _⟩ => ⟨S8x1, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c6_i32 : BitVec 32 := 6#32
  let v19 : BitVec 32 := Scalar.addi c0_i32 c6_i32
  let c1_i32 : BitVec 32 := 1#32
  ⟨c0_i32, v19, c1_i32⟩
def k0_off1 (k0_t1 : Fin k0_t1_loop.trips) (c0_i32_547 : BitVec 32) : Fin 2 → Nat :=
  let c0_549 : Index := 0#32
  let c32_i32 : BitVec 32 := 32#32
  let c0_i32 : BitVec 32 := 0#32
  let c1_i32 : BitVec 32 := 1#32
  let arg5 : BitVec 32 := Scf.iv c0_i32 c1_i32 k0_t1
  let v1780 : BitVec 32 := Scalar.muli c32_i32 arg5
  let v1781 : BitVec 32 := Scalar.addi v1780 c0_i32_547
  let c512_i32_548 : BitVec 32 := 512#32
  let v1782 : BitVec 32 := Scalar.muli v1781 c512_i32_548
  let v1783 : Index := Scalar.indexCast v1782
  ![0, v1783.toNat]
def k0_off2 (c192_i32 : BitVec 32) : Fin 2 → Nat :=
  let c0 : Index := 0#32
  let c512_i32 : BitVec 32 := 512#32
  let v21 : BitVec 32 := Scalar.muli c192_i32 c512_i32
  let v22 : Index := Scalar.indexCast v21
  ![0, v22.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x100000 : Shape := ⟨2, ![1024, 100000]⟩
abbrev S1024 : Shape := ⟨1, ![1024]⟩
abbrev S2 : Shape := ⟨1, ![2]⟩
abbrev S_ : Shape := ⟨0, ![]⟩
abbrev S1 : Shape := ⟨1, ![1]⟩
abbrev S1024x1 : Shape := ⟨2, ![1024, 1]⟩
abbrev S2x1024x100000 : Shape := ⟨3, ![2, 1024, 100000]⟩
abbrev S1x1024x100000 : Shape := ⟨3, ![1, 1024, 100000]⟩
abbrev S2x1024 : Shape := ⟨2, ![2, 1024]⟩
abbrev S2x1024x1 : Shape := ⟨3, ![2, 1024, 1]⟩
abbrev S1024x2 : Shape := ⟨2, ![1024, 2]⟩

abbrev nBuf : Space → Nat
  | .hbm => 781
  | .vmem => 0
  | .smem => 0
  | _ => 0

abbrev hbmTy0_0 (i : Nat) : BufTy := match i % 128 with
  | 0 => ⟨S1024x100000, .f32⟩
  | 1 => ⟨S1024, .f32⟩
  | 2 => ⟨S2, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S1024x100000, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S1, .i32⟩
  | 110 => ⟨S_, .i32⟩
  | 111 => ⟨S1, .i32⟩
  | 112 => ⟨S_, .i32⟩
  | 113 => ⟨S1, .i32⟩
  | 114 => ⟨S_, .i32⟩
  | 115 => ⟨S1, .i32⟩
  | 116 => ⟨S_, .i32⟩
  | 117 => ⟨S_, .f32⟩
  | 118 => ⟨S1024, .f32⟩
  | 119 => ⟨S_, .f32⟩
  | 120 => ⟨S1024, .f32⟩
  | 121 => ⟨S1024, .f32⟩
  | 122 => ⟨S1024x1, .f32⟩
  | 123 => ⟨S1024x100000, .f32⟩
  | 124 => ⟨S1024x100000, .f32⟩
  | 125 => ⟨S1024x100000, .f32⟩
  | 126 => ⟨S_, .f32⟩
  | 127 => ⟨S1024, .f32⟩
  | _ => ⟨S1024x100000, .f32⟩

abbrev hbmTy0_2 (i : Nat) : BufTy := match i % 128 with
  | 0 => ⟨S1024x1, .f32⟩
  | 1 => ⟨S1024x1, .f32⟩
  | 2 => ⟨S1024x100000, .f32⟩
  | 3 => ⟨S1024x100000, .f32⟩
  | 4 => ⟨S2x1024x100000, .i32⟩
  | 5 => ⟨S2x1024x100000, .i32⟩
  | 6 => ⟨S_, .i32⟩
  | 7 => ⟨S2x1024x100000, .i32⟩
  | 8 => ⟨S2x1024x100000, .i32⟩
  | 9 => ⟨S2x1024x100000, .i32⟩
  | 10 => ⟨S2x1024x100000, .i32⟩
  | 11 => ⟨S_, .i32⟩
  | 12 => ⟨S2x1024x100000, .i32⟩
  | 13 => ⟨S2x1024x100000, .i32⟩
  | 14 => ⟨S2x1024x100000, .i32⟩
  | 15 => ⟨S_, .i32⟩
  | 16 => ⟨S_, .i32⟩
  | 17 => ⟨S_, .i32⟩
  | 18 => ⟨S_, .i32⟩
  | 19 => ⟨S2x1024x100000, .i32⟩
  | 20 => ⟨S2x1024x100000, .i32⟩
  | 21 => ⟨S2x1024x100000, .i32⟩
  | 22 => ⟨S2x1024x100000, .i32⟩
  | 23 => ⟨S2x1024x100000, .i32⟩
  | 24 => ⟨S2x1024x100000, .i32⟩
  | 25 => ⟨S_, .i32⟩
  | 26 => ⟨S2x1024x100000, .i32⟩
  | 27 => ⟨S2x1024x100000, .i32⟩
  | 28 => ⟨S_, .i32⟩
  | 29 => ⟨S2x1024x100000, .i32⟩
  | 30 => ⟨S2x1024x100000, .i32⟩
  | 31 => ⟨S2x1024x100000, .i32⟩
  | 32 => ⟨S2x1024x100000, .i32⟩
  | 33 => ⟨S2x1024x100000, .i32⟩
  | 34 => ⟨S_, .i32⟩
  | 35 => ⟨S2x1024x100000, .i32⟩
  | 36 => ⟨S2x1024x100000, .i32⟩
  | 37 => ⟨S_, .i32⟩
  | 38 => ⟨S2x1024x100000, .i32⟩
  | 39 => ⟨S2x1024x100000, .i32⟩
  | 40 => ⟨S2x1024x100000, .i32⟩
  | 41 => ⟨S2x1024x100000, .i32⟩
  | 42 => ⟨S2x1024x100000, .i32⟩
  | 43 => ⟨S_, .i32⟩
  | 44 => ⟨S2x1024x100000, .i32⟩
  | 45 => ⟨S2x1024x100000, .i32⟩
  | 46 => ⟨S_, .i32⟩
  | 47 => ⟨S2x1024x100000, .i32⟩
  | 48 => ⟨S2x1024x100000, .i32⟩
  | 49 => ⟨S2x1024x100000, .i32⟩
  | 50 => ⟨S2x1024x100000, .i32⟩
  | 51 => ⟨S2x1024x100000, .i32⟩
  | 52 => ⟨S_, .i32⟩
  | 53 => ⟨S2x1024x100000, .i32⟩
  | 54 => ⟨S2x1024x100000, .i32⟩
  | 55 => ⟨S_, .i32⟩
  | 56 => ⟨S2x1024x100000, .i32⟩
  | 57 => ⟨S2x1024x100000, .i32⟩
  | 58 => ⟨S2x1024x100000, .i32⟩
  | 59 => ⟨S2x1024x100000, .i32⟩
  | 60 => ⟨S2x1024x100000, .i32⟩
  | 61 => ⟨S2x1024x100000, .i32⟩
  | 62 => ⟨S2x1024x100000, .i32⟩
  | 63 => ⟨S2x1024x100000, .i32⟩
  | 64 => ⟨S_, .i32⟩
  | 65 => ⟨S2x1024x100000, .i32⟩
  | 66 => ⟨S2x1024x100000, .i32⟩
  | 67 => ⟨S2x1024x100000, .i32⟩
  | 68 => ⟨S_, .i32⟩
  | 69 => ⟨S2x1024x100000, .i32⟩
  | 70 => ⟨S2x1024x100000, .i32⟩
  | 71 => ⟨S_, .i32⟩
  | 72 => ⟨S2x1024x100000, .i32⟩
  | 73 => ⟨S2x1024x100000, .i32⟩
  | 74 => ⟨S2x1024x100000, .i32⟩
  | 75 => ⟨S2x1024x100000, .i32⟩
  | 76 => ⟨S2x1024x100000, .i32⟩
  | 77 => ⟨S_, .i32⟩
  | 78 => ⟨S2x1024x100000, .i32⟩
  | 79 => ⟨S2x1024x100000, .i32⟩
  | 80 => ⟨S_, .i32⟩
  | 81 => ⟨S2x1024x100000, .i32⟩
  | 82 => ⟨S2x1024x100000, .i32⟩
  | 83 => ⟨S2x1024x100000, .i32⟩
  | 84 => ⟨S2x1024x100000, .i32⟩
  | 85 => ⟨S2x1024x100000, .i32⟩
  | 86 => ⟨S_, .i32⟩
  | 87 => ⟨S2x1024x100000, .i32⟩
  | 88 => ⟨S2x1024x100000, .i32⟩
  | 89 => ⟨S_, .i32⟩
  | 90 => ⟨S2x1024x100000, .i32⟩
  | 91 => ⟨S2x1024x100000, .i32⟩
  | 92 => ⟨S2x1024x100000, .i32⟩
  | 93 => ⟨S2x1024x100000, .i32⟩
  | 94 => ⟨S2x1024x100000, .i32⟩
  | 95 => ⟨S_, .i32⟩
  | 96 => ⟨S2x1024x100000, .i32⟩
  | 97 => ⟨S2x1024x100000, .i32⟩
  | 98 => ⟨S_, .i32⟩
  | 99 => ⟨S2x1024x100000, .i32⟩
  | 100 => ⟨S2x1024x100000, .i32⟩
  | 101 => ⟨S2x1024x100000, .i32⟩
  | 102 => ⟨S2x1024x100000, .i32⟩
  | 103 => ⟨S2x1024x100000, .i32⟩
  | 104 => ⟨S2x1024x100000, .i32⟩
  | 105 => ⟨S2x1024x100000, .i32⟩
  | 106 => ⟨S2x1024x100000, .i32⟩
  | 107 => ⟨S_, .i32⟩
  | 108 => ⟨S2x1024x100000, .i32⟩
  | 109 => ⟨S2x1024x100000, .i32⟩
  | 110 => ⟨S2x1024x100000, .i32⟩
  | 111 => ⟨S_, .i32⟩
  | 112 => ⟨S2x1024x100000, .i32⟩
  | 113 => ⟨S2x1024x100000, .i32⟩
  | 114 => ⟨S_, .i32⟩
  | 115 => ⟨S2x1024x100000, .i32⟩
  | 116 => ⟨S2x1024x100000, .i32⟩
  | 117 => ⟨S2x1024x100000, .i32⟩
  | 118 => ⟨S2x1024x100000, .i32⟩
  | 119 => ⟨S2x1024x100000, .i32⟩
  | 120 => ⟨S_, .i32⟩
  | 121 => ⟨S2x1024x100000, .i32⟩
  | 122 => ⟨S2x1024x100000, .i32⟩
  | 123 => ⟨S_, .i32⟩
  | 124 => ⟨S2x1024x100000, .i32⟩
  | 125 => ⟨S2x1024x100000, .i32⟩
  | 126 => ⟨S2x1024x100000, .i32⟩
  | 127 => ⟨S2x1024x100000, .i32⟩
  | _ => ⟨S1024x100000, .f32⟩

abbrev hbmTy0_3 (i : Nat) : BufTy := match i % 128 with
  | 0 => ⟨S2x1024x100000, .i32⟩
  | 1 => ⟨S_, .i32⟩
  | 2 => ⟨S2x1024x100000, .i32⟩
  | 3 => ⟨S2x1024x100000, .i32⟩
  | 4 => ⟨S_, .i32⟩
  | 5 => ⟨S2x1024x100000, .i32⟩
  | 6 => ⟨S2x1024x100000, .i32⟩
  | 7 => ⟨S2x1024x100000, .i32⟩
  | 8 => ⟨S2x1024x100000, .i32⟩
  | 9 => ⟨S2x1024x100000, .i32⟩
  | 10 => ⟨S_, .i32⟩
  | 11 => ⟨S2x1024x100000, .i32⟩
  | 12 => ⟨S2x1024x100000, .i32⟩
  | 13 => ⟨S_, .i32⟩
  | 14 => ⟨S2x1024x100000, .i32⟩
  | 15 => ⟨S2x1024x100000, .i32⟩
  | 16 => ⟨S2x1024x100000, .i32⟩
  | 17 => ⟨S2x1024x100000, .i32⟩
  | 18 => ⟨S2x1024x100000, .i32⟩
  | 19 => ⟨S2x1024x100000, .i32⟩
  | 20 => ⟨S2x1024x100000, .i32⟩
  | 21 => ⟨S2x1024x100000, .i32⟩
  | 22 => ⟨S_, .i32⟩
  | 23 => ⟨S2x1024x100000, .i32⟩
  | 24 => ⟨S2x1024x100000, .i32⟩
  | 25 => ⟨S2x1024x100000, .i32⟩
  | 26 => ⟨S_, .i32⟩
  | 27 => ⟨S2x1024x100000, .i32⟩
  | 28 => ⟨S2x1024x100000, .i32⟩
  | 29 => ⟨S_, .i32⟩
  | 30 => ⟨S2x1024x100000, .i32⟩
  | 31 => ⟨S2x1024x100000, .i32⟩
  | 32 => ⟨S2x1024x100000, .i32⟩
  | 33 => ⟨S2x1024x100000, .i32⟩
  | 34 => ⟨S2x1024x100000, .i32⟩
  | 35 => ⟨S_, .i32⟩
  | 36 => ⟨S2x1024x100000, .i32⟩
  | 37 => ⟨S2x1024x100000, .i32⟩
  | 38 => ⟨S_, .i32⟩
  | 39 => ⟨S2x1024x100000, .i32⟩
  | 40 => ⟨S2x1024x100000, .i32⟩
  | 41 => ⟨S2x1024x100000, .i32⟩
  | 42 => ⟨S2x1024x100000, .i32⟩
  | 43 => ⟨S2x1024x100000, .i32⟩
  | 44 => ⟨S_, .i32⟩
  | 45 => ⟨S2x1024x100000, .i32⟩
  | 46 => ⟨S2x1024x100000, .i32⟩
  | 47 => ⟨S_, .i32⟩
  | 48 => ⟨S2x1024x100000, .i32⟩
  | 49 => ⟨S2x1024x100000, .i32⟩
  | 50 => ⟨S2x1024x100000, .i32⟩
  | 51 => ⟨S2x1024x100000, .i32⟩
  | 52 => ⟨S2x1024x100000, .i32⟩
  | 53 => ⟨S_, .i32⟩
  | 54 => ⟨S2x1024x100000, .i32⟩
  | 55 => ⟨S2x1024x100000, .i32⟩
  | 56 => ⟨S_, .i32⟩
  | 57 => ⟨S2x1024x100000, .i32⟩
  | 58 => ⟨S2x1024x100000, .i32⟩
  | 59 => ⟨S2x1024x100000, .i32⟩
  | 60 => ⟨S2x1024x100000, .i32⟩
  | 61 => ⟨S2x1024x100000, .i32⟩
  | 62 => ⟨S2x1024x100000, .i32⟩
  | 63 => ⟨S2x1024x100000, .i32⟩
  | 64 => ⟨S2x1024x100000, .i32⟩
  | 65 => ⟨S_, .i32⟩
  | 66 => ⟨S2x1024x100000, .i32⟩
  | 67 => ⟨S2x1024x100000, .i32⟩
  | 68 => ⟨S2x1024x100000, .i32⟩
  | 69 => ⟨S_, .i32⟩
  | 70 => ⟨S2x1024x100000, .i32⟩
  | 71 => ⟨S2x1024x100000, .i32⟩
  | 72 => ⟨S_, .i32⟩
  | 73 => ⟨S2x1024x100000, .i32⟩
  | 74 => ⟨S2x1024x100000, .i32⟩
  | 75 => ⟨S2x1024x100000, .i32⟩
  | 76 => ⟨S2x1024x100000, .i32⟩
  | 77 => ⟨S2x1024x100000, .i32⟩
  | 78 => ⟨S_, .i32⟩
  | 79 => ⟨S2x1024x100000, .i32⟩
  | 80 => ⟨S2x1024x100000, .i32⟩
  | 81 => ⟨S_, .i32⟩
  | 82 => ⟨S2x1024x100000, .i32⟩
  | 83 => ⟨S2x1024x100000, .i32⟩
  | 84 => ⟨S2x1024x100000, .i32⟩
  | 85 => ⟨S2x1024x100000, .i32⟩
  | 86 => ⟨S2x1024x100000, .i32⟩
  | 87 => ⟨S_, .i32⟩
  | 88 => ⟨S2x1024x100000, .i32⟩
  | 89 => ⟨S2x1024x100000, .i32⟩
  | 90 => ⟨S_, .i32⟩
  | 91 => ⟨S2x1024x100000, .i32⟩
  | 92 => ⟨S2x1024x100000, .i32⟩
  | 93 => ⟨S2x1024x100000, .i32⟩
  | 94 => ⟨S2x1024x100000, .i32⟩
  | 95 => ⟨S2x1024x100000, .i32⟩
  | 96 => ⟨S_, .i32⟩
  | 97 => ⟨S2x1024x100000, .i32⟩
  | 98 => ⟨S2x1024x100000, .i32⟩
  | 99 => ⟨S_, .i32⟩
  | 100 => ⟨S2x1024x100000, .i32⟩
  | 101 => ⟨S2x1024x100000, .i32⟩
  | 102 => ⟨S2x1024x100000, .i32⟩
  | 103 => ⟨S2x1024x100000, .i32⟩
  | 104 => ⟨S2x1024x100000, .i32⟩
  | 105 => ⟨S2x1024x100000, .i32⟩
  | 106 => ⟨S2x1024x100000, .i32⟩
  | 107 => ⟨S2x1024x100000, .i32⟩
  | 108 => ⟨S_, .i32⟩
  | 109 => ⟨S2x1024x100000, .i32⟩
  | 110 => ⟨S2x1024x100000, .i32⟩
  | 111 => ⟨S2x1024x100000, .i32⟩
  | 112 => ⟨S_, .i32⟩
  | 113 => ⟨S2x1024x100000, .i32⟩
  | 114 => ⟨S2x1024x100000, .i32⟩
  | 115 => ⟨S_, .i32⟩
  | 116 => ⟨S2x1024x100000, .i32⟩
  | 117 => ⟨S2x1024x100000, .i32⟩
  | 118 => ⟨S2x1024x100000, .f32⟩
  | 119 => ⟨S_, .f32⟩
  | 120 => ⟨S2x1024x100000, .f32⟩
  | 121 => ⟨S2x1024x100000, .f32⟩
  | 122 => ⟨S_, .f32⟩
  | 123 => ⟨S2x1024x100000, .f32⟩
  | 124 => ⟨S2x1024x100000, .f32⟩
  | 125 => ⟨S_, .f32⟩
  | 126 => ⟨S2x1024x100000, .f32⟩
  | 127 => ⟨S2x1024x100000, .f32⟩
  | _ => ⟨S1024x100000, .f32⟩

abbrev hbmTy0_4 (i : Nat) : BufTy := match i % 128 with
  | 0 => ⟨S_, .f32⟩
  | 1 => ⟨S2x1024x100000, .f32⟩
  | 2 => ⟨S2x1024x100000, .f32⟩
  | 3 => ⟨S2x1024x100000, .f32⟩
  | 4 => ⟨S2x1024x100000, .f32⟩
  | 5 => ⟨S2x1024x100000, .f32⟩
  | 6 => ⟨S2x1024x100000, .f32⟩
  | 7 => ⟨S1x1024x100000, .f32⟩
  | 8 => ⟨S2x1024x100000, .f32⟩
  | 9 => ⟨S2x1024x100000, .f32⟩
  | 10 => ⟨S2x1024x100000, .i32⟩
  | 11 => ⟨S_, .f32⟩
  | 12 => ⟨S2x1024, .f32⟩
  | 13 => ⟨S2x1024x1, .f32⟩
  | 14 => ⟨S2x1024x100000, .f32⟩
  | 15 => ⟨S2x1024x100000, .i1⟩
  | 16 => ⟨S_, .i32⟩
  | 17 => ⟨S2x1024x100000, .i32⟩
  | 18 => ⟨S2x1024x100000, .i32⟩
  | 19 => ⟨S_, .i32⟩
  | 20 => ⟨S2x1024, .i32⟩
  | 21 => ⟨S1024x2, .i32⟩
  | 22 => ⟨S1024, .i32⟩
  | 23 => ⟨S_, .i32⟩
  | 24 => ⟨S_, .i32⟩
  | 25 => ⟨S_, .i32⟩
  | 26 => ⟨S_, .i32⟩
  | 27 => ⟨S1024, .i32⟩
  | 28 => ⟨S1024, .i32⟩
  | 29 => ⟨S1024, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i32⟩
  | 36 => ⟨S_, .i32⟩
  | 37 => ⟨S1024, .i32⟩
  | 38 => ⟨S1024, .i32⟩
  | 39 => ⟨S1024, .i32⟩
  | 40 => ⟨S1024, .i32⟩
  | 41 => ⟨S1024, .i32⟩
  | 42 => ⟨S_, .i32⟩
  | 43 => ⟨S1024, .i32⟩
  | 44 => ⟨S1024, .i32⟩
  | 45 => ⟨S_, .i32⟩
  | 46 => ⟨S1024, .i32⟩
  | 47 => ⟨S1024, .i32⟩
  | 48 => ⟨S1024, .i32⟩
  | 49 => ⟨S1024, .i32⟩
  | 50 => ⟨S1024, .i32⟩
  | 51 => ⟨S_, .i32⟩
  | 52 => ⟨S1024, .i32⟩
  | 53 => ⟨S1024, .i32⟩
  | 54 => ⟨S_, .i32⟩
  | 55 => ⟨S1024, .i32⟩
  | 56 => ⟨S1024, .i32⟩
  | 57 => ⟨S1024, .i32⟩
  | 58 => ⟨S1024, .i32⟩
  | 59 => ⟨S1024, .i32⟩
  | 60 => ⟨S_, .i32⟩
  | 61 => ⟨S1024, .i32⟩
  | 62 => ⟨S1024, .i32⟩
  | 63 => ⟨S_, .i32⟩
  | 64 => ⟨S1024, .i32⟩
  | 65 => ⟨S1024, .i32⟩
  | 66 => ⟨S1024, .i32⟩
  | 67 => ⟨S1024, .i32⟩
  | 68 => ⟨S1024, .i32⟩
  | 69 => ⟨S1024, .i32⟩
  | 70 => ⟨S1024, .i32⟩
  | 71 => ⟨S1024, .i32⟩
  | 72 => ⟨S_, .i32⟩
  | 73 => ⟨S1024, .i32⟩
  | 74 => ⟨S1024, .i32⟩
  | 75 => ⟨S1024, .i32⟩
  | 76 => ⟨S_, .i32⟩
  | 77 => ⟨S1024, .i32⟩
  | 78 => ⟨S1024, .i32⟩
  | 79 => ⟨S_, .i32⟩
  | 80 => ⟨S1024, .i32⟩
  | 81 => ⟨S1024, .i32⟩
  | 82 => ⟨S1024, .i32⟩
  | 83 => ⟨S1024, .i32⟩
  | 84 => ⟨S1024, .i32⟩
  | 85 => ⟨S_, .i32⟩
  | 86 => ⟨S1024, .i32⟩
  | 87 => ⟨S1024, .i32⟩
  | 88 => ⟨S_, .i32⟩
  | 89 => ⟨S1024, .i32⟩
  | 90 => ⟨S1024, .i32⟩
  | 91 => ⟨S1024, .i32⟩
  | 92 => ⟨S1024, .i32⟩
  | 93 => ⟨S1024, .i32⟩
  | 94 => ⟨S_, .i32⟩
  | 95 => ⟨S1024, .i32⟩
  | 96 => ⟨S1024, .i32⟩
  | 97 => ⟨S_, .i32⟩
  | 98 => ⟨S1024, .i32⟩
  | 99 => ⟨S1024, .i32⟩
  | 100 => ⟨S1024, .i32⟩
  | 101 => ⟨S1024, .i32⟩
  | 102 => ⟨S1024, .i32⟩
  | 103 => ⟨S_, .i32⟩
  | 104 => ⟨S1024, .i32⟩
  | 105 => ⟨S1024, .i32⟩
  | 106 => ⟨S_, .i32⟩
  | 107 => ⟨S1024, .i32⟩
  | 108 => ⟨S1024, .i32⟩
  | 109 => ⟨S1024, .i32⟩
  | 110 => ⟨S1024, .i32⟩
  | 111 => ⟨S1024, .i32⟩
  | 112 => ⟨S1024, .i32⟩
  | 113 => ⟨S1024, .i32⟩
  | 114 => ⟨S1024, .i32⟩
  | 115 => ⟨S_, .i32⟩
  | 116 => ⟨S1024, .i32⟩
  | 117 => ⟨S1024, .i32⟩
  | 118 => ⟨S1024, .i32⟩
  | 119 => ⟨S_, .i32⟩
  | 120 => ⟨S1024, .i32⟩
  | 121 => ⟨S1024, .i32⟩
  | 122 => ⟨S_, .i32⟩
  | 123 => ⟨S1024, .i32⟩
  | 124 => ⟨S1024, .i32⟩
  | 125 => ⟨S1024, .i32⟩
  | 126 => ⟨S1024, .i32⟩
  | 127 => ⟨S1024, .i32⟩
  | _ => ⟨S1024x100000, .f32⟩

abbrev hbmTy0_5 (i : Nat) : BufTy := match i % 128 with
  | 0 => ⟨S_, .i32⟩
  | 1 => ⟨S1024, .i32⟩
  | 2 => ⟨S1024, .i32⟩
  | 3 => ⟨S_, .i32⟩
  | 4 => ⟨S1024, .i32⟩
  | 5 => ⟨S1024, .i32⟩
  | 6 => ⟨S1024, .i32⟩
  | 7 => ⟨S1024, .i32⟩
  | 8 => ⟨S1024, .i32⟩
  | 9 => ⟨S_, .i32⟩
  | 10 => ⟨S1024, .i32⟩
  | 11 => ⟨S1024, .i32⟩
  | 12 => ⟨S_, .i32⟩
  | 13 => ⟨S1024, .i32⟩
  | 14 => ⟨S1024, .i32⟩
  | 15 => ⟨S1024, .i32⟩
  | 16 => ⟨S1024, .i32⟩
  | 17 => ⟨S1024, .i32⟩
  | 18 => ⟨S_, .i32⟩
  | 19 => ⟨S1024, .i32⟩
  | 20 => ⟨S1024, .i32⟩
  | 21 => ⟨S_, .i32⟩
  | 22 => ⟨S1024, .i32⟩
  | 23 => ⟨S1024, .i32⟩
  | 24 => ⟨S1024, .i32⟩
  | 25 => ⟨S1024, .i32⟩
  | 26 => ⟨S1024, .i32⟩
  | 27 => ⟨S1024, .i32⟩
  | 28 => ⟨S1024, .i32⟩
  | 29 => ⟨S1024, .i32⟩
  | 30 => ⟨S_, .i32⟩
  | 31 => ⟨S1024, .i32⟩
  | 32 => ⟨S1024, .i32⟩
  | 33 => ⟨S1024, .i32⟩
  | 34 => ⟨S_, .i32⟩
  | 35 => ⟨S1024, .i32⟩
  | 36 => ⟨S1024, .i32⟩
  | 37 => ⟨S_, .i32⟩
  | 38 => ⟨S1024, .i32⟩
  | 39 => ⟨S1024, .i32⟩
  | 40 => ⟨S1024, .i32⟩
  | 41 => ⟨S1024, .i32⟩
  | 42 => ⟨S1024, .i32⟩
  | 43 => ⟨S_, .i32⟩
  | 44 => ⟨S1024, .i32⟩
  | 45 => ⟨S1024, .i32⟩
  | 46 => ⟨S_, .i32⟩
  | 47 => ⟨S1024, .i32⟩
  | 48 => ⟨S1024, .i32⟩
  | 49 => ⟨S1024, .i32⟩
  | 50 => ⟨S1024, .i32⟩
  | 51 => ⟨S1024, .i32⟩
  | 52 => ⟨S_, .i32⟩
  | 53 => ⟨S1024, .i32⟩
  | 54 => ⟨S1024, .i32⟩
  | 55 => ⟨S_, .i32⟩
  | 56 => ⟨S1024, .i32⟩
  | 57 => ⟨S1024, .i32⟩
  | 58 => ⟨S1024, .i32⟩
  | 59 => ⟨S1024, .i32⟩
  | 60 => ⟨S1024, .i32⟩
  | 61 => ⟨S_, .i32⟩
  | 62 => ⟨S1024, .i32⟩
  | 63 => ⟨S1024, .i32⟩
  | 64 => ⟨S_, .i32⟩
  | 65 => ⟨S1024, .i32⟩
  | 66 => ⟨S1024, .i32⟩
  | 67 => ⟨S1024, .i32⟩
  | 68 => ⟨S1024, .i32⟩
  | 69 => ⟨S1024, .i32⟩
  | 70 => ⟨S1024, .i32⟩
  | 71 => ⟨S1024, .i32⟩
  | 72 => ⟨S1024, .i32⟩
  | 73 => ⟨S_, .i32⟩
  | 74 => ⟨S1024, .i32⟩
  | 75 => ⟨S1024, .i32⟩
  | 76 => ⟨S1024, .i32⟩
  | 77 => ⟨S_, .i32⟩
  | 78 => ⟨S1024, .i32⟩
  | 79 => ⟨S1024, .i32⟩
  | 80 => ⟨S_, .i32⟩
  | 81 => ⟨S1024, .i32⟩
  | 82 => ⟨S1024, .i32⟩
  | 83 => ⟨S1024, .i32⟩
  | 84 => ⟨S1024, .i32⟩
  | 85 => ⟨S1024, .i32⟩
  | 86 => ⟨S_, .i32⟩
  | 87 => ⟨S1024, .i32⟩
  | 88 => ⟨S1024, .i32⟩
  | 89 => ⟨S_, .i32⟩
  | 90 => ⟨S1024, .i32⟩
  | 91 => ⟨S1024, .i32⟩
  | 92 => ⟨S1024, .i32⟩
  | 93 => ⟨S1024, .i32⟩
  | 94 => ⟨S1024, .i32⟩
  | 95 => ⟨S_, .i32⟩
  | 96 => ⟨S1024, .i32⟩
  | 97 => ⟨S1024, .i32⟩
  | 98 => ⟨S_, .i32⟩
  | 99 => ⟨S1024, .i32⟩
  | 100 => ⟨S1024, .i32⟩
  | 101 => ⟨S1024, .i32⟩
  | 102 => ⟨S1024, .i32⟩
  | 103 => ⟨S1024, .i32⟩
  | 104 => ⟨S_, .i32⟩
  | 105 => ⟨S1024, .i32⟩
  | 106 => ⟨S1024, .i32⟩
  | 107 => ⟨S_, .i32⟩
  | 108 => ⟨S1024, .i32⟩
  | 109 => ⟨S1024, .i32⟩
  | 110 => ⟨S1024, .i32⟩
  | 111 => ⟨S1024, .i32⟩
  | 112 => ⟨S1024, .i32⟩
  | 113 => ⟨S1024, .i32⟩
  | 114 => ⟨S1024, .i32⟩
  | 115 => ⟨S1024, .i32⟩
  | 116 => ⟨S_, .i32⟩
  | 117 => ⟨S1024, .i32⟩
  | 118 => ⟨S1024, .i32⟩
  | 119 => ⟨S1024, .i32⟩
  | 120 => ⟨S_, .i32⟩
  | 121 => ⟨S1024, .i32⟩
  | 122 => ⟨S1024, .i32⟩
  | 123 => ⟨S_, .i32⟩
  | 124 => ⟨S1024, .i32⟩
  | 125 => ⟨S1024, .i32⟩
  | 126 => ⟨S1024, .f32⟩
  | 127 => ⟨S_, .f32⟩
  | _ => ⟨S1024x100000, .f32⟩

abbrev hbmTy0_6 (i : Nat) : BufTy := match i % 128 with
  | 0 => ⟨S1024, .f32⟩
  | 1 => ⟨S1024, .f32⟩
  | 2 => ⟨S_, .f32⟩
  | 3 => ⟨S1024, .f32⟩
  | 4 => ⟨S1024, .f32⟩
  | 5 => ⟨S_, .f32⟩
  | 6 => ⟨S1024, .f32⟩
  | 7 => ⟨S1024, .f32⟩
  | 8 => ⟨S_, .f32⟩
  | 9 => ⟨S1024, .f32⟩
  | 10 => ⟨S1024, .f32⟩
  | 11 => ⟨S1024, .i1⟩
  | 12 => ⟨S1024, .f32⟩
  | _ => ⟨S1024x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1024x100000, .f32⟩

abbrev bufTy : (tb : Table) → Fin (tcTables nBuf tb) → BufTy
  | .hbm, ⟨i, _⟩ => hbmTy i
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_c_3 : Ref sig .tc := ⟨.hbm, 10, rfl⟩
abbrev main_v4 : Ref sig .tc := ⟨.hbm, 11, rfl⟩
abbrev main_v5 : Ref sig .tc := ⟨.hbm, 12, rfl⟩
abbrev main_c_4 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_c_0 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_c_1 : Ref sig .tc := ⟨.hbm, 26, rfl⟩
abbrev main_call0_v8 : Ref sig .tc := ⟨.hbm, 27, rfl⟩
abbrev main_call0_v9 : Ref sig .tc := ⟨.hbm, 28, rfl⟩
abbrev main_call0_c_2 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_c_3 : Ref sig .tc := ⟨.hbm, 35, rfl⟩
abbrev main_call0_v15 : Ref sig .tc := ⟨.hbm, 36, rfl⟩
abbrev main_call0_v16 : Ref sig .tc := ⟨.hbm, 37, rfl⟩
abbrev main_call0_c_4 : Ref sig .tc := ⟨.hbm, 38, rfl⟩
abbrev main_call0_v17 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_v8_0 : Ref sig .tc := ⟨.hbm, 43, rfl⟩
abbrev main_call0_c_5 : Ref sig .tc := ⟨.hbm, 44, rfl⟩
abbrev main_call0_v22 : Ref sig .tc := ⟨.hbm, 45, rfl⟩
abbrev main_call0_v23 : Ref sig .tc := ⟨.hbm, 46, rfl⟩
abbrev main_call0_c_6 : Ref sig .tc := ⟨.hbm, 47, rfl⟩
abbrev main_call0_v24 : Ref sig .tc := ⟨.hbm, 48, rfl⟩
abbrev main_call0_v25 : Ref sig .tc := ⟨.hbm, 49, rfl⟩
abbrev main_call0_v26 : Ref sig .tc := ⟨.hbm, 50, rfl⟩
abbrev main_v8_1 : Ref sig .tc := ⟨.hbm, 51, rfl⟩
abbrev main_c_5 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_c_6 : Ref sig .tc := ⟨.hbm, 57, rfl⟩
abbrev main_v13 : Ref sig .tc := ⟨.hbm, 58, rfl⟩
abbrev main_v14 : Ref sig .tc := ⟨.hbm, 59, rfl⟩
abbrev main_call1_v0 : Ref sig .tc := ⟨.hbm, 60, rfl⟩
abbrev main_call1_c : Ref sig .tc := ⟨.hbm, 61, rfl⟩
abbrev main_call1_v1 : Ref sig .tc := ⟨.hbm, 62, rfl⟩
abbrev main_call1_v2 : Ref sig .tc := ⟨.hbm, 63, rfl⟩
abbrev main_call1_c_0 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_c_1 : Ref sig .tc := ⟨.hbm, 70, rfl⟩
abbrev main_call1_v8 : Ref sig .tc := ⟨.hbm, 71, rfl⟩
abbrev main_call1_v9 : Ref sig .tc := ⟨.hbm, 72, rfl⟩
abbrev main_call1_c_2 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_c_3 : Ref sig .tc := ⟨.hbm, 79, rfl⟩
abbrev main_call1_v15 : Ref sig .tc := ⟨.hbm, 80, rfl⟩
abbrev main_call1_v16 : Ref sig .tc := ⟨.hbm, 81, rfl⟩
abbrev main_call1_c_4 : Ref sig .tc := ⟨.hbm, 82, rfl⟩
abbrev main_call1_v17 : Ref sig .tc := ⟨.hbm, 83, rfl⟩
abbrev main_call1_v18 : Ref sig .tc := ⟨.hbm, 84, rfl⟩
abbrev main_call1_v19 : Ref sig .tc := ⟨.hbm, 85, rfl⟩
abbrev main_call1_v20 : Ref sig .tc := ⟨.hbm, 86, rfl⟩
abbrev main_v15_0 : Ref sig .tc := ⟨.hbm, 87, rfl⟩
abbrev main_call1_c_5 : Ref sig .tc := ⟨.hbm, 88, rfl⟩
abbrev main_call1_v22 : Ref sig .tc := ⟨.hbm, 89, rfl⟩
abbrev main_call1_v23 : Ref sig .tc := ⟨.hbm, 90, rfl⟩
abbrev main_call1_c_6 : Ref sig .tc := ⟨.hbm, 91, rfl⟩
abbrev main_call1_v24 : Ref sig .tc := ⟨.hbm, 92, rfl⟩
abbrev main_call1_v25 : Ref sig .tc := ⟨.hbm, 93, rfl⟩
abbrev main_call1_v26 : Ref sig .tc := ⟨.hbm, 94, rfl⟩
abbrev main_v15_1 : Ref sig .tc := ⟨.hbm, 95, rfl⟩
abbrev main_v16 : Ref sig .tc := ⟨.hbm, 96, rfl⟩
abbrev main_v17 : Ref sig .tc := ⟨.hbm, 97, rfl⟩
abbrev main_c_7 : Ref sig .tc := ⟨.hbm, 98, rfl⟩
abbrev main_v18 : Ref sig .tc := ⟨.hbm, 99, rfl⟩
abbrev main_v19 : Ref sig .tc := ⟨.hbm, 100, rfl⟩
abbrev main_c_8 : Ref sig .tc := ⟨.hbm, 101, rfl⟩
abbrev main_v20 : Ref sig .tc := ⟨.hbm, 102, rfl⟩
abbrev main_v21 : Ref sig .tc := ⟨.hbm, 103, rfl⟩
abbrev main_call2_v0 : Ref sig .tc := ⟨.hbm, 104, rfl⟩
abbrev main_call2_c : Ref sig .tc := ⟨.hbm, 105, rfl⟩
abbrev main_call2_v1 : Ref sig .tc := ⟨.hbm, 106, rfl⟩
abbrev main_call2_v2 : Ref sig .tc := ⟨.hbm, 107, rfl⟩
abbrev main_call2_c_0 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_v7 : Ref sig .tc := ⟨.hbm, 113, rfl⟩
abbrev main_call2_c_1 : Ref sig .tc := ⟨.hbm, 114, rfl⟩
abbrev main_call2_v8 : Ref sig .tc := ⟨.hbm, 115, rfl⟩
abbrev main_call2_v9 : Ref sig .tc := ⟨.hbm, 116, rfl⟩
abbrev main_call2_c_2 : Ref sig .tc := ⟨.hbm, 117, rfl⟩
abbrev main_call2_v10 : Ref sig .tc := ⟨.hbm, 118, rfl⟩
abbrev main_call2_v11 : Ref sig .tc := ⟨.hbm, 119, rfl⟩
abbrev main_call2_v12 : Ref sig .tc := ⟨.hbm, 120, rfl⟩
abbrev main_call2_v13 : Ref sig .tc := ⟨.hbm, 121, rfl⟩
abbrev main_call2_v14 : Ref sig .tc := ⟨.hbm, 122, rfl⟩
abbrev main_call2_c_3 : Ref sig .tc := ⟨.hbm, 123, rfl⟩
abbrev main_call2_v15 : Ref sig .tc := ⟨.hbm, 124, rfl⟩
abbrev main_call2_v16 : Ref sig .tc := ⟨.hbm, 125, rfl⟩
abbrev main_call2_c_4 : Ref sig .tc := ⟨.hbm, 126, rfl⟩
abbrev main_call2_v17 : Ref sig .tc := ⟨.hbm, 127, rfl⟩
abbrev main_call2_v18 : Ref sig .tc := ⟨.hbm, 128, rfl⟩
abbrev main_call2_v19 : Ref sig .tc := ⟨.hbm, 129, rfl⟩
abbrev main_call2_v20 : Ref sig .tc := ⟨.hbm, 130, rfl⟩
abbrev main_v22_0 : Ref sig .tc := ⟨.hbm, 131, rfl⟩
abbrev main_call2_c_5 : Ref sig .tc := ⟨.hbm, 132, rfl⟩
abbrev main_call2_v22 : Ref sig .tc := ⟨.hbm, 133, rfl⟩
abbrev main_call2_v23 : Ref sig .tc := ⟨.hbm, 134, rfl⟩
abbrev main_call2_c_6 : Ref sig .tc := ⟨.hbm, 135, rfl⟩
abbrev main_call2_v24 : Ref sig .tc := ⟨.hbm, 136, rfl⟩
abbrev main_call2_v25 : Ref sig .tc := ⟨.hbm, 137, rfl⟩
abbrev main_call2_v26 : Ref sig .tc := ⟨.hbm, 138, rfl⟩
abbrev main_v22_1 : Ref sig .tc := ⟨.hbm, 139, rfl⟩
abbrev main_c_9 : Ref sig .tc := ⟨.hbm, 140, rfl⟩
abbrev main_v23 : Ref sig .tc := ⟨.hbm, 141, rfl⟩
abbrev main_v24 : Ref sig .tc := ⟨.hbm, 142, rfl⟩
abbrev main_c_10 : Ref sig .tc := ⟨.hbm, 143, rfl⟩
abbrev main_v25 : Ref sig .tc := ⟨.hbm, 144, rfl⟩
abbrev main_v26 : Ref sig .tc := ⟨.hbm, 145, rfl⟩
abbrev main_c_11 : Ref sig .tc := ⟨.hbm, 146, rfl⟩
abbrev main_v27 : Ref sig .tc := ⟨.hbm, 147, rfl⟩
abbrev main_v28 : Ref sig .tc := ⟨.hbm, 148, rfl⟩
abbrev main_call3_v0 : Ref sig .tc := ⟨.hbm, 149, rfl⟩
abbrev main_call3_c : Ref sig .tc := ⟨.hbm, 150, rfl⟩
abbrev main_call3_v1 : Ref sig .tc := ⟨.hbm, 151, rfl⟩
abbrev main_call3_v2 : Ref sig .tc := ⟨.hbm, 152, rfl⟩
abbrev main_call3_c_0 : Ref sig .tc := ⟨.hbm, 153, rfl⟩
abbrev main_call3_v3 : Ref sig .tc := ⟨.hbm, 154, rfl⟩
abbrev main_call3_v4 : Ref sig .tc := ⟨.hbm, 155, rfl⟩
abbrev main_call3_v5 : Ref sig .tc := ⟨.hbm, 156, rfl⟩
abbrev main_call3_v6 : Ref sig .tc := ⟨.hbm, 157, rfl⟩
abbrev main_call3_v7 : Ref sig .tc := ⟨.hbm, 158, rfl⟩
abbrev main_call3_c_1 : Ref sig .tc := ⟨.hbm, 159, rfl⟩
abbrev main_call3_v8 : Ref sig .tc := ⟨.hbm, 160, rfl⟩
abbrev main_call3_v9 : Ref sig .tc := ⟨.hbm, 161, rfl⟩
abbrev main_call3_c_2 : Ref sig .tc := ⟨.hbm, 162, rfl⟩
abbrev main_call3_v10 : Ref sig .tc := ⟨.hbm, 163, rfl⟩
abbrev main_call3_v11 : Ref sig .tc := ⟨.hbm, 164, rfl⟩
abbrev main_call3_v12 : Ref sig .tc := ⟨.hbm, 165, rfl⟩
abbrev main_call3_v13 : Ref sig .tc := ⟨.hbm, 166, rfl⟩
abbrev main_call3_v14 : Ref sig .tc := ⟨.hbm, 167, rfl⟩
abbrev main_call3_c_3 : Ref sig .tc := ⟨.hbm, 168, rfl⟩
abbrev main_call3_v15 : Ref sig .tc := ⟨.hbm, 169, rfl⟩
abbrev main_call3_v16 : Ref sig .tc := ⟨.hbm, 170, rfl⟩
abbrev main_call3_c_4 : Ref sig .tc := ⟨.hbm, 171, rfl⟩
abbrev main_call3_v17 : Ref sig .tc := ⟨.hbm, 172, rfl⟩
abbrev main_call3_v18 : Ref sig .tc := ⟨.hbm, 173, rfl⟩
abbrev main_call3_v19 : Ref sig .tc := ⟨.hbm, 174, rfl⟩
abbrev main_call3_v20 : Ref sig .tc := ⟨.hbm, 175, rfl⟩
abbrev main_v29_0 : Ref sig .tc := ⟨.hbm, 176, rfl⟩
abbrev main_call3_c_5 : Ref sig .tc := ⟨.hbm, 177, rfl⟩
abbrev main_call3_v22 : Ref sig .tc := ⟨.hbm, 178, rfl⟩
abbrev main_call3_v23 : Ref sig .tc := ⟨.hbm, 179, rfl⟩
abbrev main_call3_c_6 : Ref sig .tc := ⟨.hbm, 180, rfl⟩
abbrev main_call3_v24 : Ref sig .tc := ⟨.hbm, 181, rfl⟩
abbrev main_call3_v25 : Ref sig .tc := ⟨.hbm, 182, rfl⟩
abbrev main_call3_v26 : Ref sig .tc := ⟨.hbm, 183, rfl⟩
abbrev main_v29_1 : Ref sig .tc := ⟨.hbm, 184, rfl⟩
abbrev main_c_12 : Ref sig .tc := ⟨.hbm, 185, rfl⟩
abbrev main_v30 : Ref sig .tc := ⟨.hbm, 186, rfl⟩
abbrev main_v31 : Ref sig .tc := ⟨.hbm, 187, rfl⟩
abbrev main_v32 : Ref sig .tc := ⟨.hbm, 188, rfl⟩
abbrev main_v33 : Ref sig .tc := ⟨.hbm, 189, rfl⟩
abbrev main_c_13 : Ref sig .tc := ⟨.hbm, 190, rfl⟩
abbrev main_v34 : Ref sig .tc := ⟨.hbm, 191, rfl⟩
abbrev main_v35 : Ref sig .tc := ⟨.hbm, 192, rfl⟩
abbrev main_call4_v0 : Ref sig .tc := ⟨.hbm, 193, rfl⟩
abbrev main_call4_c : Ref sig .tc := ⟨.hbm, 194, rfl⟩
abbrev main_call4_v1 : Ref sig .tc := ⟨.hbm, 195, rfl⟩
abbrev main_call4_v2 : Ref sig .tc := ⟨.hbm, 196, rfl⟩
abbrev main_call4_c_0 : Ref sig .tc := ⟨.hbm, 197, rfl⟩
abbrev main_call4_v3 : Ref sig .tc := ⟨.hbm, 198, rfl⟩
abbrev main_call4_v4 : Ref sig .tc := ⟨.hbm, 199, rfl⟩
abbrev main_call4_v5 : Ref sig .tc := ⟨.hbm, 200, rfl⟩
abbrev main_call4_v6 : Ref sig .tc := ⟨.hbm, 201, rfl⟩
abbrev main_call4_v7 : Ref sig .tc := ⟨.hbm, 202, rfl⟩
abbrev main_call4_c_1 : Ref sig .tc := ⟨.hbm, 203, rfl⟩
abbrev main_call4_v8 : Ref sig .tc := ⟨.hbm, 204, rfl⟩
abbrev main_call4_v9 : Ref sig .tc := ⟨.hbm, 205, rfl⟩
abbrev main_call4_c_2 : Ref sig .tc := ⟨.hbm, 206, rfl⟩
abbrev main_call4_v10 : Ref sig .tc := ⟨.hbm, 207, rfl⟩
abbrev main_call4_v11 : Ref sig .tc := ⟨.hbm, 208, rfl⟩
abbrev main_call4_v12 : Ref sig .tc := ⟨.hbm, 209, rfl⟩
abbrev main_call4_v13 : Ref sig .tc := ⟨.hbm, 210, rfl⟩
abbrev main_call4_v14 : Ref sig .tc := ⟨.hbm, 211, rfl⟩
abbrev main_call4_c_3 : Ref sig .tc := ⟨.hbm, 212, rfl⟩
abbrev main_call4_v15 : Ref sig .tc := ⟨.hbm, 213, rfl⟩
abbrev main_call4_v16 : Ref sig .tc := ⟨.hbm, 214, rfl⟩
abbrev main_call4_c_4 : Ref sig .tc := ⟨.hbm, 215, rfl⟩
abbrev main_call4_v17 : Ref sig .tc := ⟨.hbm, 216, rfl⟩
abbrev main_call4_v18 : Ref sig .tc := ⟨.hbm, 217, rfl⟩
abbrev main_call4_v19 : Ref sig .tc := ⟨.hbm, 218, rfl⟩
abbrev main_call4_v20 : Ref sig .tc := ⟨.hbm, 219, rfl⟩
abbrev main_v36_0 : Ref sig .tc := ⟨.hbm, 220, rfl⟩
abbrev main_call4_c_5 : Ref sig .tc := ⟨.hbm, 221, rfl⟩
abbrev main_call4_v22 : Ref sig .tc := ⟨.hbm, 222, rfl⟩
abbrev main_call4_v23 : Ref sig .tc := ⟨.hbm, 223, rfl⟩
abbrev main_call4_c_6 : Ref sig .tc := ⟨.hbm, 224, rfl⟩
abbrev main_call4_v24 : Ref sig .tc := ⟨.hbm, 225, rfl⟩
abbrev main_call4_v25 : Ref sig .tc := ⟨.hbm, 226, rfl⟩
abbrev main_call4_v26 : Ref sig .tc := ⟨.hbm, 227, rfl⟩
abbrev main_v36_1 : Ref sig .tc := ⟨.hbm, 228, rfl⟩
abbrev main_v37 : Ref sig .tc := ⟨.hbm, 229, rfl⟩
abbrev main_v38 : Ref sig .tc := ⟨.hbm, 230, rfl⟩
abbrev main_c_14 : Ref sig .tc := ⟨.hbm, 231, rfl⟩
abbrev main_v39 : Ref sig .tc := ⟨.hbm, 232, rfl⟩
abbrev main_v40 : Ref sig .tc := ⟨.hbm, 233, rfl⟩
abbrev main_c_15 : Ref sig .tc := ⟨.hbm, 234, rfl⟩
abbrev main_v41 : Ref sig .tc := ⟨.hbm, 235, rfl⟩
abbrev main_v42 : Ref sig .tc := ⟨.hbm, 236, rfl⟩
abbrev main_v43 : Ref sig .tc := ⟨.hbm, 237, rfl⟩
abbrev main_v44 : Ref sig .tc := ⟨.hbm, 238, rfl⟩
abbrev main_v45 : Ref sig .tc := ⟨.hbm, 239, rfl⟩
abbrev main_v46 : Ref sig .tc := ⟨.hbm, 240, rfl⟩
abbrev main_v47 : Ref sig .tc := ⟨.hbm, 241, rfl⟩
abbrev main_v48 : Ref sig .tc := ⟨.hbm, 242, rfl⟩
abbrev main_v49 : Ref sig .tc := ⟨.hbm, 243, rfl⟩
abbrev main_v50 : Ref sig .tc := ⟨.hbm, 244, rfl⟩
abbrev main_call5_cst : Ref sig .tc := ⟨.hbm, 245, rfl⟩
abbrev main_call5_v0 : Ref sig .tc := ⟨.hbm, 246, rfl⟩
abbrev main_call5_cst_0 : Ref sig .tc := ⟨.hbm, 247, rfl⟩
abbrev main_call5_v1 : Ref sig .tc := ⟨.hbm, 248, rfl⟩
abbrev main_call5_v2 : Ref sig .tc := ⟨.hbm, 249, rfl⟩
abbrev main_call5_v3 : Ref sig .tc := ⟨.hbm, 250, rfl⟩
abbrev main_call5_v4 : Ref sig .tc := ⟨.hbm, 251, rfl⟩
abbrev main_call5_v5 : Ref sig .tc := ⟨.hbm, 252, rfl⟩
abbrev main_call5_v6 : Ref sig .tc := ⟨.hbm, 253, rfl⟩
abbrev main_call5_cst_1 : Ref sig .tc := ⟨.hbm, 254, rfl⟩
abbrev main_call5_v7 : Ref sig .tc := ⟨.hbm, 255, rfl⟩
abbrev main_call5_v8 : Ref sig .tc := ⟨.hbm, 256, rfl⟩
abbrev main_call5_v9 : Ref sig .tc := ⟨.hbm, 257, rfl⟩
abbrev main_call5_v10 : Ref sig .tc := ⟨.hbm, 258, rfl⟩
abbrev main_v51 : Ref sig .tc := ⟨.hbm, 259, rfl⟩
abbrev main_v52 : Ref sig .tc := ⟨.hbm, 260, rfl⟩
abbrev main_v53 : Ref sig .tc := ⟨.hbm, 261, rfl⟩
abbrev main_c_16 : Ref sig .tc := ⟨.hbm, 262, rfl⟩
abbrev main_v54 : Ref sig .tc := ⟨.hbm, 263, rfl⟩
abbrev main_v55 : Ref sig .tc := ⟨.hbm, 264, rfl⟩
abbrev main_v56 : Ref sig .tc := ⟨.hbm, 265, rfl⟩
abbrev main_v57 : Ref sig .tc := ⟨.hbm, 266, rfl⟩
abbrev main_c_17 : Ref sig .tc := ⟨.hbm, 267, rfl⟩
abbrev main_v58 : Ref sig .tc := ⟨.hbm, 268, rfl⟩
abbrev main_v59 : Ref sig .tc := ⟨.hbm, 269, rfl⟩
abbrev main_v60 : Ref sig .tc := ⟨.hbm, 270, rfl⟩
abbrev main_v61 : Ref sig .tc := ⟨.hbm, 271, rfl⟩
abbrev main_c_18 : Ref sig .tc := ⟨.hbm, 272, rfl⟩
abbrev main_v62 : Ref sig .tc := ⟨.hbm, 273, rfl⟩
abbrev main_c_19 : Ref sig .tc := ⟨.hbm, 274, rfl⟩
abbrev main_v63 : Ref sig .tc := ⟨.hbm, 275, rfl⟩
abbrev main_v64 : Ref sig .tc := ⟨.hbm, 276, rfl⟩
abbrev main_v65 : Ref sig .tc := ⟨.hbm, 277, rfl⟩
abbrev main_v66 : Ref sig .tc := ⟨.hbm, 278, rfl⟩
abbrev main_v67 : Ref sig .tc := ⟨.hbm, 279, rfl⟩
abbrev main_call6_v0 : Ref sig .tc := ⟨.hbm, 280, rfl⟩
abbrev main_call6_c : Ref sig .tc := ⟨.hbm, 281, rfl⟩
abbrev main_call6_v1 : Ref sig .tc := ⟨.hbm, 282, rfl⟩
abbrev main_call6_v2 : Ref sig .tc := ⟨.hbm, 283, rfl⟩
abbrev main_call6_c_0 : Ref sig .tc := ⟨.hbm, 284, rfl⟩
abbrev main_call6_v3 : Ref sig .tc := ⟨.hbm, 285, rfl⟩
abbrev main_call6_v4 : Ref sig .tc := ⟨.hbm, 286, rfl⟩
abbrev main_call6_v5 : Ref sig .tc := ⟨.hbm, 287, rfl⟩
abbrev main_call6_v6 : Ref sig .tc := ⟨.hbm, 288, rfl⟩
abbrev main_call6_v7 : Ref sig .tc := ⟨.hbm, 289, rfl⟩
abbrev main_call6_c_1 : Ref sig .tc := ⟨.hbm, 290, rfl⟩
abbrev main_call6_v8 : Ref sig .tc := ⟨.hbm, 291, rfl⟩
abbrev main_call6_v9 : Ref sig .tc := ⟨.hbm, 292, rfl⟩
abbrev main_call6_c_2 : Ref sig .tc := ⟨.hbm, 293, rfl⟩
abbrev main_call6_v10 : Ref sig .tc := ⟨.hbm, 294, rfl⟩
abbrev main_call6_v11 : Ref sig .tc := ⟨.hbm, 295, rfl⟩
abbrev main_call6_v12 : Ref sig .tc := ⟨.hbm, 296, rfl⟩
abbrev main_call6_v13 : Ref sig .tc := ⟨.hbm, 297, rfl⟩
abbrev main_call6_v14 : Ref sig .tc := ⟨.hbm, 298, rfl⟩
abbrev main_call6_c_3 : Ref sig .tc := ⟨.hbm, 299, rfl⟩
abbrev main_call6_v15 : Ref sig .tc := ⟨.hbm, 300, rfl⟩
abbrev main_call6_v16 : Ref sig .tc := ⟨.hbm, 301, rfl⟩
abbrev main_call6_c_4 : Ref sig .tc := ⟨.hbm, 302, rfl⟩
abbrev main_call6_v17 : Ref sig .tc := ⟨.hbm, 303, rfl⟩
abbrev main_call6_v18 : Ref sig .tc := ⟨.hbm, 304, rfl⟩
abbrev main_call6_v19 : Ref sig .tc := ⟨.hbm, 305, rfl⟩
abbrev main_call6_v20 : Ref sig .tc := ⟨.hbm, 306, rfl⟩
abbrev main_v68_0 : Ref sig .tc := ⟨.hbm, 307, rfl⟩
abbrev main_call6_c_5 : Ref sig .tc := ⟨.hbm, 308, rfl⟩
abbrev main_call6_v22 : Ref sig .tc := ⟨.hbm, 309, rfl⟩
abbrev main_call6_v23 : Ref sig .tc := ⟨.hbm, 310, rfl⟩
abbrev main_call6_c_6 : Ref sig .tc := ⟨.hbm, 311, rfl⟩
abbrev main_call6_v24 : Ref sig .tc := ⟨.hbm, 312, rfl⟩
abbrev main_call6_v25 : Ref sig .tc := ⟨.hbm, 313, rfl⟩
abbrev main_call6_v26 : Ref sig .tc := ⟨.hbm, 314, rfl⟩
abbrev main_v68_1 : Ref sig .tc := ⟨.hbm, 315, rfl⟩
abbrev main_v69 : Ref sig .tc := ⟨.hbm, 316, rfl⟩
abbrev main_v70 : Ref sig .tc := ⟨.hbm, 317, rfl⟩
abbrev main_v71 : Ref sig .tc := ⟨.hbm, 318, rfl⟩
abbrev main_v72 : Ref sig .tc := ⟨.hbm, 319, rfl⟩
abbrev main_c_20 : Ref sig .tc := ⟨.hbm, 320, rfl⟩
abbrev main_v73 : Ref sig .tc := ⟨.hbm, 321, rfl⟩
abbrev main_v74 : Ref sig .tc := ⟨.hbm, 322, rfl⟩
abbrev main_call7_v0 : Ref sig .tc := ⟨.hbm, 323, rfl⟩
abbrev main_call7_c : Ref sig .tc := ⟨.hbm, 324, rfl⟩
abbrev main_call7_v1 : Ref sig .tc := ⟨.hbm, 325, rfl⟩
abbrev main_call7_v2 : Ref sig .tc := ⟨.hbm, 326, rfl⟩
abbrev main_call7_c_0 : Ref sig .tc := ⟨.hbm, 327, rfl⟩
abbrev main_call7_v3 : Ref sig .tc := ⟨.hbm, 328, rfl⟩
abbrev main_call7_v4 : Ref sig .tc := ⟨.hbm, 329, rfl⟩
abbrev main_call7_v5 : Ref sig .tc := ⟨.hbm, 330, rfl⟩
abbrev main_call7_v6 : Ref sig .tc := ⟨.hbm, 331, rfl⟩
abbrev main_call7_v7 : Ref sig .tc := ⟨.hbm, 332, rfl⟩
abbrev main_call7_c_1 : Ref sig .tc := ⟨.hbm, 333, rfl⟩
abbrev main_call7_v8 : Ref sig .tc := ⟨.hbm, 334, rfl⟩
abbrev main_call7_v9 : Ref sig .tc := ⟨.hbm, 335, rfl⟩
abbrev main_call7_c_2 : Ref sig .tc := ⟨.hbm, 336, rfl⟩
abbrev main_call7_v10 : Ref sig .tc := ⟨.hbm, 337, rfl⟩
abbrev main_call7_v11 : Ref sig .tc := ⟨.hbm, 338, rfl⟩
abbrev main_call7_v12 : Ref sig .tc := ⟨.hbm, 339, rfl⟩
abbrev main_call7_v13 : Ref sig .tc := ⟨.hbm, 340, rfl⟩
abbrev main_call7_v14 : Ref sig .tc := ⟨.hbm, 341, rfl⟩
abbrev main_call7_c_3 : Ref sig .tc := ⟨.hbm, 342, rfl⟩
abbrev main_call7_v15 : Ref sig .tc := ⟨.hbm, 343, rfl⟩
abbrev main_call7_v16 : Ref sig .tc := ⟨.hbm, 344, rfl⟩
abbrev main_call7_c_4 : Ref sig .tc := ⟨.hbm, 345, rfl⟩
abbrev main_call7_v17 : Ref sig .tc := ⟨.hbm, 346, rfl⟩
abbrev main_call7_v18 : Ref sig .tc := ⟨.hbm, 347, rfl⟩
abbrev main_call7_v19 : Ref sig .tc := ⟨.hbm, 348, rfl⟩
abbrev main_call7_v20 : Ref sig .tc := ⟨.hbm, 349, rfl⟩
abbrev main_v75_0 : Ref sig .tc := ⟨.hbm, 350, rfl⟩
abbrev main_call7_c_5 : Ref sig .tc := ⟨.hbm, 351, rfl⟩
abbrev main_call7_v22 : Ref sig .tc := ⟨.hbm, 352, rfl⟩
abbrev main_call7_v23 : Ref sig .tc := ⟨.hbm, 353, rfl⟩
abbrev main_call7_c_6 : Ref sig .tc := ⟨.hbm, 354, rfl⟩
abbrev main_call7_v24 : Ref sig .tc := ⟨.hbm, 355, rfl⟩
abbrev main_call7_v25 : Ref sig .tc := ⟨.hbm, 356, rfl⟩
abbrev main_call7_v26 : Ref sig .tc := ⟨.hbm, 357, rfl⟩
abbrev main_v75_1 : Ref sig .tc := ⟨.hbm, 358, rfl⟩
abbrev main_v76 : Ref sig .tc := ⟨.hbm, 359, rfl⟩
abbrev main_v77 : Ref sig .tc := ⟨.hbm, 360, rfl⟩
abbrev main_v78 : Ref sig .tc := ⟨.hbm, 361, rfl⟩
abbrev main_v79 : Ref sig .tc := ⟨.hbm, 362, rfl⟩
abbrev main_c_21 : Ref sig .tc := ⟨.hbm, 363, rfl⟩
abbrev main_v80 : Ref sig .tc := ⟨.hbm, 364, rfl⟩
abbrev main_v81 : Ref sig .tc := ⟨.hbm, 365, rfl⟩
abbrev main_call8_v0 : Ref sig .tc := ⟨.hbm, 366, rfl⟩
abbrev main_call8_c : Ref sig .tc := ⟨.hbm, 367, rfl⟩
abbrev main_call8_v1 : Ref sig .tc := ⟨.hbm, 368, rfl⟩
abbrev main_call8_v2 : Ref sig .tc := ⟨.hbm, 369, rfl⟩
abbrev main_call8_c_0 : Ref sig .tc := ⟨.hbm, 370, rfl⟩
abbrev main_call8_v3 : Ref sig .tc := ⟨.hbm, 371, rfl⟩
abbrev main_call8_v4 : Ref sig .tc := ⟨.hbm, 372, rfl⟩
abbrev main_call8_v5 : Ref sig .tc := ⟨.hbm, 373, rfl⟩
abbrev main_call8_v6 : Ref sig .tc := ⟨.hbm, 374, rfl⟩
abbrev main_call8_v7 : Ref sig .tc := ⟨.hbm, 375, rfl⟩
abbrev main_call8_c_1 : Ref sig .tc := ⟨.hbm, 376, rfl⟩
abbrev main_call8_v8 : Ref sig .tc := ⟨.hbm, 377, rfl⟩
abbrev main_call8_v9 : Ref sig .tc := ⟨.hbm, 378, rfl⟩
abbrev main_call8_c_2 : Ref sig .tc := ⟨.hbm, 379, rfl⟩
abbrev main_call8_v10 : Ref sig .tc := ⟨.hbm, 380, rfl⟩
abbrev main_call8_v11 : Ref sig .tc := ⟨.hbm, 381, rfl⟩
abbrev main_call8_v12 : Ref sig .tc := ⟨.hbm, 382, rfl⟩
abbrev main_call8_v13 : Ref sig .tc := ⟨.hbm, 383, rfl⟩
abbrev main_call8_v14 : Ref sig .tc := ⟨.hbm, 384, rfl⟩
abbrev main_call8_c_3 : Ref sig .tc := ⟨.hbm, 385, rfl⟩
abbrev main_call8_v15 : Ref sig .tc := ⟨.hbm, 386, rfl⟩
abbrev main_call8_v16 : Ref sig .tc := ⟨.hbm, 387, rfl⟩
abbrev main_call8_c_4 : Ref sig .tc := ⟨.hbm, 388, rfl⟩
abbrev main_call8_v17 : Ref sig .tc := ⟨.hbm, 389, rfl⟩
abbrev main_call8_v18 : Ref sig .tc := ⟨.hbm, 390, rfl⟩
abbrev main_call8_v19 : Ref sig .tc := ⟨.hbm, 391, rfl⟩
abbrev main_call8_v20 : Ref sig .tc := ⟨.hbm, 392, rfl⟩
abbrev main_v82_0 : Ref sig .tc := ⟨.hbm, 393, rfl⟩
abbrev main_call8_c_5 : Ref sig .tc := ⟨.hbm, 394, rfl⟩
abbrev main_call8_v22 : Ref sig .tc := ⟨.hbm, 395, rfl⟩
abbrev main_call8_v23 : Ref sig .tc := ⟨.hbm, 396, rfl⟩
abbrev main_call8_c_6 : Ref sig .tc := ⟨.hbm, 397, rfl⟩
abbrev main_call8_v24 : Ref sig .tc := ⟨.hbm, 398, rfl⟩
abbrev main_call8_v25 : Ref sig .tc := ⟨.hbm, 399, rfl⟩
abbrev main_call8_v26 : Ref sig .tc := ⟨.hbm, 400, rfl⟩
abbrev main_v82_1 : Ref sig .tc := ⟨.hbm, 401, rfl⟩
abbrev main_v83 : Ref sig .tc := ⟨.hbm, 402, rfl⟩
abbrev main_v84 : Ref sig .tc := ⟨.hbm, 403, rfl⟩
abbrev main_v85 : Ref sig .tc := ⟨.hbm, 404, rfl⟩
abbrev main_v86 : Ref sig .tc := ⟨.hbm, 405, rfl⟩
abbrev main_c_22 : Ref sig .tc := ⟨.hbm, 406, rfl⟩
abbrev main_v87 : Ref sig .tc := ⟨.hbm, 407, rfl⟩
abbrev main_v88 : Ref sig .tc := ⟨.hbm, 408, rfl⟩
abbrev main_call9_v0 : Ref sig .tc := ⟨.hbm, 409, rfl⟩
abbrev main_call9_c : Ref sig .tc := ⟨.hbm, 410, rfl⟩
abbrev main_call9_v1 : Ref sig .tc := ⟨.hbm, 411, rfl⟩
abbrev main_call9_v2 : Ref sig .tc := ⟨.hbm, 412, rfl⟩
abbrev main_call9_c_0 : Ref sig .tc := ⟨.hbm, 413, rfl⟩
abbrev main_call9_v3 : Ref sig .tc := ⟨.hbm, 414, rfl⟩
abbrev main_call9_v4 : Ref sig .tc := ⟨.hbm, 415, rfl⟩
abbrev main_call9_v5 : Ref sig .tc := ⟨.hbm, 416, rfl⟩
abbrev main_call9_v6 : Ref sig .tc := ⟨.hbm, 417, rfl⟩
abbrev main_call9_v7 : Ref sig .tc := ⟨.hbm, 418, rfl⟩
abbrev main_call9_c_1 : Ref sig .tc := ⟨.hbm, 419, rfl⟩
abbrev main_call9_v8 : Ref sig .tc := ⟨.hbm, 420, rfl⟩
abbrev main_call9_v9 : Ref sig .tc := ⟨.hbm, 421, rfl⟩
abbrev main_call9_c_2 : Ref sig .tc := ⟨.hbm, 422, rfl⟩
abbrev main_call9_v10 : Ref sig .tc := ⟨.hbm, 423, rfl⟩
abbrev main_call9_v11 : Ref sig .tc := ⟨.hbm, 424, rfl⟩
abbrev main_call9_v12 : Ref sig .tc := ⟨.hbm, 425, rfl⟩
abbrev main_call9_v13 : Ref sig .tc := ⟨.hbm, 426, rfl⟩
abbrev main_call9_v14 : Ref sig .tc := ⟨.hbm, 427, rfl⟩
abbrev main_call9_c_3 : Ref sig .tc := ⟨.hbm, 428, rfl⟩
abbrev main_call9_v15 : Ref sig .tc := ⟨.hbm, 429, rfl⟩
abbrev main_call9_v16 : Ref sig .tc := ⟨.hbm, 430, rfl⟩
abbrev main_call9_c_4 : Ref sig .tc := ⟨.hbm, 431, rfl⟩
abbrev main_call9_v17 : Ref sig .tc := ⟨.hbm, 432, rfl⟩
abbrev main_call9_v18 : Ref sig .tc := ⟨.hbm, 433, rfl⟩
abbrev main_call9_v19 : Ref sig .tc := ⟨.hbm, 434, rfl⟩
abbrev main_call9_v20 : Ref sig .tc := ⟨.hbm, 435, rfl⟩
abbrev main_v89_0 : Ref sig .tc := ⟨.hbm, 436, rfl⟩
abbrev main_call9_c_5 : Ref sig .tc := ⟨.hbm, 437, rfl⟩
abbrev main_call9_v22 : Ref sig .tc := ⟨.hbm, 438, rfl⟩
abbrev main_call9_v23 : Ref sig .tc := ⟨.hbm, 439, rfl⟩
abbrev main_call9_c_6 : Ref sig .tc := ⟨.hbm, 440, rfl⟩
abbrev main_call9_v24 : Ref sig .tc := ⟨.hbm, 441, rfl⟩
abbrev main_call9_v25 : Ref sig .tc := ⟨.hbm, 442, rfl⟩
abbrev main_call9_v26 : Ref sig .tc := ⟨.hbm, 443, rfl⟩
abbrev main_v89_1 : Ref sig .tc := ⟨.hbm, 444, rfl⟩
abbrev main_v90 : Ref sig .tc := ⟨.hbm, 445, rfl⟩
abbrev main_v91 : Ref sig .tc := ⟨.hbm, 446, rfl⟩
abbrev main_v92 : Ref sig .tc := ⟨.hbm, 447, rfl⟩
abbrev main_v93 : Ref sig .tc := ⟨.hbm, 448, rfl⟩
abbrev main_c_23 : Ref sig .tc := ⟨.hbm, 449, rfl⟩
abbrev main_v94 : Ref sig .tc := ⟨.hbm, 450, rfl⟩
abbrev main_v95 : Ref sig .tc := ⟨.hbm, 451, rfl⟩
abbrev main_call10_v0 : Ref sig .tc := ⟨.hbm, 452, rfl⟩
abbrev main_call10_c : Ref sig .tc := ⟨.hbm, 453, rfl⟩
abbrev main_call10_v1 : Ref sig .tc := ⟨.hbm, 454, rfl⟩
abbrev main_call10_v2 : Ref sig .tc := ⟨.hbm, 455, rfl⟩
abbrev main_call10_c_0 : Ref sig .tc := ⟨.hbm, 456, rfl⟩
abbrev main_call10_v3 : Ref sig .tc := ⟨.hbm, 457, rfl⟩
abbrev main_call10_v4 : Ref sig .tc := ⟨.hbm, 458, rfl⟩
abbrev main_call10_v5 : Ref sig .tc := ⟨.hbm, 459, rfl⟩
abbrev main_call10_v6 : Ref sig .tc := ⟨.hbm, 460, rfl⟩
abbrev main_call10_v7 : Ref sig .tc := ⟨.hbm, 461, rfl⟩
abbrev main_call10_c_1 : Ref sig .tc := ⟨.hbm, 462, rfl⟩
abbrev main_call10_v8 : Ref sig .tc := ⟨.hbm, 463, rfl⟩
abbrev main_call10_v9 : Ref sig .tc := ⟨.hbm, 464, rfl⟩
abbrev main_call10_c_2 : Ref sig .tc := ⟨.hbm, 465, rfl⟩
abbrev main_call10_v10 : Ref sig .tc := ⟨.hbm, 466, rfl⟩
abbrev main_call10_v11 : Ref sig .tc := ⟨.hbm, 467, rfl⟩
abbrev main_call10_v12 : Ref sig .tc := ⟨.hbm, 468, rfl⟩
abbrev main_call10_v13 : Ref sig .tc := ⟨.hbm, 469, rfl⟩
abbrev main_call10_v14 : Ref sig .tc := ⟨.hbm, 470, rfl⟩
abbrev main_call10_c_3 : Ref sig .tc := ⟨.hbm, 471, rfl⟩
abbrev main_call10_v15 : Ref sig .tc := ⟨.hbm, 472, rfl⟩
abbrev main_call10_v16 : Ref sig .tc := ⟨.hbm, 473, rfl⟩
abbrev main_call10_c_4 : Ref sig .tc := ⟨.hbm, 474, rfl⟩
abbrev main_call10_v17 : Ref sig .tc := ⟨.hbm, 475, rfl⟩
abbrev main_call10_v18 : Ref sig .tc := ⟨.hbm, 476, rfl⟩
abbrev main_call10_v19 : Ref sig .tc := ⟨.hbm, 477, rfl⟩
abbrev main_call10_v20 : Ref sig .tc := ⟨.hbm, 478, rfl⟩
abbrev main_v96_0 : Ref sig .tc := ⟨.hbm, 479, rfl⟩
abbrev main_call10_c_5 : Ref sig .tc := ⟨.hbm, 480, rfl⟩
abbrev main_call10_v22 : Ref sig .tc := ⟨.hbm, 481, rfl⟩
abbrev main_call10_v23 : Ref sig .tc := ⟨.hbm, 482, rfl⟩
abbrev main_call10_c_6 : Ref sig .tc := ⟨.hbm, 483, rfl⟩
abbrev main_call10_v24 : Ref sig .tc := ⟨.hbm, 484, rfl⟩
abbrev main_call10_v25 : Ref sig .tc := ⟨.hbm, 485, rfl⟩
abbrev main_call10_v26 : Ref sig .tc := ⟨.hbm, 486, rfl⟩
abbrev main_v96_1 : Ref sig .tc := ⟨.hbm, 487, rfl⟩
abbrev main_v97 : Ref sig .tc := ⟨.hbm, 488, rfl⟩
abbrev main_v98 : Ref sig .tc := ⟨.hbm, 489, rfl⟩
abbrev main_v99 : Ref sig .tc := ⟨.hbm, 490, rfl⟩
abbrev main_v100 : Ref sig .tc := ⟨.hbm, 491, rfl⟩
abbrev main_c_24 : Ref sig .tc := ⟨.hbm, 492, rfl⟩
abbrev main_v101 : Ref sig .tc := ⟨.hbm, 493, rfl⟩
abbrev main_v102 : Ref sig .tc := ⟨.hbm, 494, rfl⟩
abbrev main_v103 : Ref sig .tc := ⟨.hbm, 495, rfl⟩
abbrev main_c_25 : Ref sig .tc := ⟨.hbm, 496, rfl⟩
abbrev main_v104 : Ref sig .tc := ⟨.hbm, 497, rfl⟩
abbrev main_v105 : Ref sig .tc := ⟨.hbm, 498, rfl⟩
abbrev main_c_26 : Ref sig .tc := ⟨.hbm, 499, rfl⟩
abbrev main_v106 : Ref sig .tc := ⟨.hbm, 500, rfl⟩
abbrev main_v107 : Ref sig .tc := ⟨.hbm, 501, rfl⟩
abbrev main_v108 : Ref sig .tc := ⟨.hbm, 502, rfl⟩
abbrev main_cst : Ref sig .tc := ⟨.hbm, 503, rfl⟩
abbrev main_v109 : Ref sig .tc := ⟨.hbm, 504, rfl⟩
abbrev main_v110 : Ref sig .tc := ⟨.hbm, 505, rfl⟩
abbrev main_cst_27 : Ref sig .tc := ⟨.hbm, 506, rfl⟩
abbrev main_v111 : Ref sig .tc := ⟨.hbm, 507, rfl⟩
abbrev main_v112 : Ref sig .tc := ⟨.hbm, 508, rfl⟩
abbrev main_cst_28 : Ref sig .tc := ⟨.hbm, 509, rfl⟩
abbrev main_v113 : Ref sig .tc := ⟨.hbm, 510, rfl⟩
abbrev main_v114 : Ref sig .tc := ⟨.hbm, 511, rfl⟩
abbrev main_cst_29 : Ref sig .tc := ⟨.hbm, 512, rfl⟩
abbrev main_v115 : Ref sig .tc := ⟨.hbm, 513, rfl⟩
abbrev main_v116 : Ref sig .tc := ⟨.hbm, 514, rfl⟩
abbrev main_v117 : Ref sig .tc := ⟨.hbm, 515, rfl⟩
abbrev main_v118 : Ref sig .tc := ⟨.hbm, 516, rfl⟩
abbrev main_v119 : Ref sig .tc := ⟨.hbm, 517, rfl⟩
abbrev main_v120 : Ref sig .tc := ⟨.hbm, 518, rfl⟩
abbrev main_v121 : Ref sig .tc := ⟨.hbm, 519, rfl⟩
abbrev main_v122 : Ref sig .tc := ⟨.hbm, 520, rfl⟩
abbrev main_v123 : Ref sig .tc := ⟨.hbm, 521, rfl⟩
abbrev main_v124 : Ref sig .tc := ⟨.hbm, 522, rfl⟩
abbrev main_cst_30 : Ref sig .tc := ⟨.hbm, 523, rfl⟩
abbrev main_v125 : Ref sig .tc := ⟨.hbm, 524, rfl⟩
abbrev main_v126 : Ref sig .tc := ⟨.hbm, 525, rfl⟩
abbrev main_v127 : Ref sig .tc := ⟨.hbm, 526, rfl⟩
abbrev main_v128 : Ref sig .tc := ⟨.hbm, 527, rfl⟩
abbrev main_c_31 : Ref sig .tc := ⟨.hbm, 528, rfl⟩
abbrev main_call11_v0 : Ref sig .tc := ⟨.hbm, 529, rfl⟩
abbrev main_v129 : Ref sig .tc := ⟨.hbm, 530, rfl⟩
abbrev main_c_32 : Ref sig .tc := ⟨.hbm, 531, rfl⟩
abbrev main_v130 : Ref sig .tc := ⟨.hbm, 532, rfl⟩
abbrev main_v131 : Ref sig .tc := ⟨.hbm, 533, rfl⟩
abbrev main_v132 : Ref sig .tc := ⟨.hbm, 534, rfl⟩
abbrev main_v133 : Ref sig .tc := ⟨.hbm, 535, rfl⟩
abbrev main_c_33 : Ref sig .tc := ⟨.hbm, 536, rfl⟩
abbrev main_v134 : Ref sig .tc := ⟨.hbm, 537, rfl⟩
abbrev main_c_34 : Ref sig .tc := ⟨.hbm, 538, rfl⟩
abbrev main_v135 : Ref sig .tc := ⟨.hbm, 539, rfl⟩
abbrev main_v136 : Ref sig .tc := ⟨.hbm, 540, rfl⟩
abbrev main_v137 : Ref sig .tc := ⟨.hbm, 541, rfl⟩
abbrev main_v138 : Ref sig .tc := ⟨.hbm, 542, rfl⟩
abbrev main_v139 : Ref sig .tc := ⟨.hbm, 543, rfl⟩
abbrev main_call12_v0 : Ref sig .tc := ⟨.hbm, 544, rfl⟩
abbrev main_call12_c : Ref sig .tc := ⟨.hbm, 545, rfl⟩
abbrev main_call12_v1 : Ref sig .tc := ⟨.hbm, 546, rfl⟩
abbrev main_call12_v2 : Ref sig .tc := ⟨.hbm, 547, rfl⟩
abbrev main_call12_c_0 : Ref sig .tc := ⟨.hbm, 548, rfl⟩
abbrev main_call12_v3 : Ref sig .tc := ⟨.hbm, 549, rfl⟩
abbrev main_call12_v4 : Ref sig .tc := ⟨.hbm, 550, rfl⟩
abbrev main_call12_v5 : Ref sig .tc := ⟨.hbm, 551, rfl⟩
abbrev main_call12_v6 : Ref sig .tc := ⟨.hbm, 552, rfl⟩
abbrev main_call12_v7 : Ref sig .tc := ⟨.hbm, 553, rfl⟩
abbrev main_call12_c_1 : Ref sig .tc := ⟨.hbm, 554, rfl⟩
abbrev main_call12_v8 : Ref sig .tc := ⟨.hbm, 555, rfl⟩
abbrev main_call12_v9 : Ref sig .tc := ⟨.hbm, 556, rfl⟩
abbrev main_call12_c_2 : Ref sig .tc := ⟨.hbm, 557, rfl⟩
abbrev main_call12_v10 : Ref sig .tc := ⟨.hbm, 558, rfl⟩
abbrev main_call12_v11 : Ref sig .tc := ⟨.hbm, 559, rfl⟩
abbrev main_call12_v12 : Ref sig .tc := ⟨.hbm, 560, rfl⟩
abbrev main_call12_v13 : Ref sig .tc := ⟨.hbm, 561, rfl⟩
abbrev main_call12_v14 : Ref sig .tc := ⟨.hbm, 562, rfl⟩
abbrev main_call12_c_3 : Ref sig .tc := ⟨.hbm, 563, rfl⟩
abbrev main_call12_v15 : Ref sig .tc := ⟨.hbm, 564, rfl⟩
abbrev main_call12_v16 : Ref sig .tc := ⟨.hbm, 565, rfl⟩
abbrev main_call12_c_4 : Ref sig .tc := ⟨.hbm, 566, rfl⟩
abbrev main_call12_v17 : Ref sig .tc := ⟨.hbm, 567, rfl⟩
abbrev main_call12_v18 : Ref sig .tc := ⟨.hbm, 568, rfl⟩
abbrev main_call12_v19 : Ref sig .tc := ⟨.hbm, 569, rfl⟩
abbrev main_call12_v20 : Ref sig .tc := ⟨.hbm, 570, rfl⟩
abbrev main_v140_0 : Ref sig .tc := ⟨.hbm, 571, rfl⟩
abbrev main_call12_c_5 : Ref sig .tc := ⟨.hbm, 572, rfl⟩
abbrev main_call12_v22 : Ref sig .tc := ⟨.hbm, 573, rfl⟩
abbrev main_call12_v23 : Ref sig .tc := ⟨.hbm, 574, rfl⟩
abbrev main_call12_c_6 : Ref sig .tc := ⟨.hbm, 575, rfl⟩
abbrev main_call12_v24 : Ref sig .tc := ⟨.hbm, 576, rfl⟩
abbrev main_call12_v25 : Ref sig .tc := ⟨.hbm, 577, rfl⟩
abbrev main_call12_v26 : Ref sig .tc := ⟨.hbm, 578, rfl⟩
abbrev main_v140_1 : Ref sig .tc := ⟨.hbm, 579, rfl⟩
abbrev main_v141 : Ref sig .tc := ⟨.hbm, 580, rfl⟩
abbrev main_v142 : Ref sig .tc := ⟨.hbm, 581, rfl⟩
abbrev main_v143 : Ref sig .tc := ⟨.hbm, 582, rfl⟩
abbrev main_v144 : Ref sig .tc := ⟨.hbm, 583, rfl⟩
abbrev main_c_35 : Ref sig .tc := ⟨.hbm, 584, rfl⟩
abbrev main_v145 : Ref sig .tc := ⟨.hbm, 585, rfl⟩
abbrev main_v146 : Ref sig .tc := ⟨.hbm, 586, rfl⟩
abbrev main_call13_v0 : Ref sig .tc := ⟨.hbm, 587, rfl⟩
abbrev main_call13_c : Ref sig .tc := ⟨.hbm, 588, rfl⟩
abbrev main_call13_v1 : Ref sig .tc := ⟨.hbm, 589, rfl⟩
abbrev main_call13_v2 : Ref sig .tc := ⟨.hbm, 590, rfl⟩
abbrev main_call13_c_0 : Ref sig .tc := ⟨.hbm, 591, rfl⟩
abbrev main_call13_v3 : Ref sig .tc := ⟨.hbm, 592, rfl⟩
abbrev main_call13_v4 : Ref sig .tc := ⟨.hbm, 593, rfl⟩
abbrev main_call13_v5 : Ref sig .tc := ⟨.hbm, 594, rfl⟩
abbrev main_call13_v6 : Ref sig .tc := ⟨.hbm, 595, rfl⟩
abbrev main_call13_v7 : Ref sig .tc := ⟨.hbm, 596, rfl⟩
abbrev main_call13_c_1 : Ref sig .tc := ⟨.hbm, 597, rfl⟩
abbrev main_call13_v8 : Ref sig .tc := ⟨.hbm, 598, rfl⟩
abbrev main_call13_v9 : Ref sig .tc := ⟨.hbm, 599, rfl⟩
abbrev main_call13_c_2 : Ref sig .tc := ⟨.hbm, 600, rfl⟩
abbrev main_call13_v10 : Ref sig .tc := ⟨.hbm, 601, rfl⟩
abbrev main_call13_v11 : Ref sig .tc := ⟨.hbm, 602, rfl⟩
abbrev main_call13_v12 : Ref sig .tc := ⟨.hbm, 603, rfl⟩
abbrev main_call13_v13 : Ref sig .tc := ⟨.hbm, 604, rfl⟩
abbrev main_call13_v14 : Ref sig .tc := ⟨.hbm, 605, rfl⟩
abbrev main_call13_c_3 : Ref sig .tc := ⟨.hbm, 606, rfl⟩
abbrev main_call13_v15 : Ref sig .tc := ⟨.hbm, 607, rfl⟩
abbrev main_call13_v16 : Ref sig .tc := ⟨.hbm, 608, rfl⟩
abbrev main_call13_c_4 : Ref sig .tc := ⟨.hbm, 609, rfl⟩
abbrev main_call13_v17 : Ref sig .tc := ⟨.hbm, 610, rfl⟩
abbrev main_call13_v18 : Ref sig .tc := ⟨.hbm, 611, rfl⟩
abbrev main_call13_v19 : Ref sig .tc := ⟨.hbm, 612, rfl⟩
abbrev main_call13_v20 : Ref sig .tc := ⟨.hbm, 613, rfl⟩
abbrev main_v147_0 : Ref sig .tc := ⟨.hbm, 614, rfl⟩
abbrev main_call13_c_5 : Ref sig .tc := ⟨.hbm, 615, rfl⟩
abbrev main_call13_v22 : Ref sig .tc := ⟨.hbm, 616, rfl⟩
abbrev main_call13_v23 : Ref sig .tc := ⟨.hbm, 617, rfl⟩
abbrev main_call13_c_6 : Ref sig .tc := ⟨.hbm, 618, rfl⟩
abbrev main_call13_v24 : Ref sig .tc := ⟨.hbm, 619, rfl⟩
abbrev main_call13_v25 : Ref sig .tc := ⟨.hbm, 620, rfl⟩
abbrev main_call13_v26 : Ref sig .tc := ⟨.hbm, 621, rfl⟩
abbrev main_v147_1 : Ref sig .tc := ⟨.hbm, 622, rfl⟩
abbrev main_v148 : Ref sig .tc := ⟨.hbm, 623, rfl⟩
abbrev main_v149 : Ref sig .tc := ⟨.hbm, 624, rfl⟩
abbrev main_v150 : Ref sig .tc := ⟨.hbm, 625, rfl⟩
abbrev main_v151 : Ref sig .tc := ⟨.hbm, 626, rfl⟩
abbrev main_c_36 : Ref sig .tc := ⟨.hbm, 627, rfl⟩
abbrev main_v152 : Ref sig .tc := ⟨.hbm, 628, rfl⟩
abbrev main_v153 : Ref sig .tc := ⟨.hbm, 629, rfl⟩
abbrev main_call14_v0 : Ref sig .tc := ⟨.hbm, 630, rfl⟩
abbrev main_call14_c : Ref sig .tc := ⟨.hbm, 631, rfl⟩
abbrev main_call14_v1 : Ref sig .tc := ⟨.hbm, 632, rfl⟩
abbrev main_call14_v2 : Ref sig .tc := ⟨.hbm, 633, rfl⟩
abbrev main_call14_c_0 : Ref sig .tc := ⟨.hbm, 634, rfl⟩
abbrev main_call14_v3 : Ref sig .tc := ⟨.hbm, 635, rfl⟩
abbrev main_call14_v4 : Ref sig .tc := ⟨.hbm, 636, rfl⟩
abbrev main_call14_v5 : Ref sig .tc := ⟨.hbm, 637, rfl⟩
abbrev main_call14_v6 : Ref sig .tc := ⟨.hbm, 638, rfl⟩
abbrev main_call14_v7 : Ref sig .tc := ⟨.hbm, 639, rfl⟩
abbrev main_call14_c_1 : Ref sig .tc := ⟨.hbm, 640, rfl⟩
abbrev main_call14_v8 : Ref sig .tc := ⟨.hbm, 641, rfl⟩
abbrev main_call14_v9 : Ref sig .tc := ⟨.hbm, 642, rfl⟩
abbrev main_call14_c_2 : Ref sig .tc := ⟨.hbm, 643, rfl⟩
abbrev main_call14_v10 : Ref sig .tc := ⟨.hbm, 644, rfl⟩
abbrev main_call14_v11 : Ref sig .tc := ⟨.hbm, 645, rfl⟩
abbrev main_call14_v12 : Ref sig .tc := ⟨.hbm, 646, rfl⟩
abbrev main_call14_v13 : Ref sig .tc := ⟨.hbm, 647, rfl⟩
abbrev main_call14_v14 : Ref sig .tc := ⟨.hbm, 648, rfl⟩
abbrev main_call14_c_3 : Ref sig .tc := ⟨.hbm, 649, rfl⟩
abbrev main_call14_v15 : Ref sig .tc := ⟨.hbm, 650, rfl⟩
abbrev main_call14_v16 : Ref sig .tc := ⟨.hbm, 651, rfl⟩
abbrev main_call14_c_4 : Ref sig .tc := ⟨.hbm, 652, rfl⟩
abbrev main_call14_v17 : Ref sig .tc := ⟨.hbm, 653, rfl⟩
abbrev main_call14_v18 : Ref sig .tc := ⟨.hbm, 654, rfl⟩
abbrev main_call14_v19 : Ref sig .tc := ⟨.hbm, 655, rfl⟩
abbrev main_call14_v20 : Ref sig .tc := ⟨.hbm, 656, rfl⟩
abbrev main_v154_0 : Ref sig .tc := ⟨.hbm, 657, rfl⟩
abbrev main_call14_c_5 : Ref sig .tc := ⟨.hbm, 658, rfl⟩
abbrev main_call14_v22 : Ref sig .tc := ⟨.hbm, 659, rfl⟩
abbrev main_call14_v23 : Ref sig .tc := ⟨.hbm, 660, rfl⟩
abbrev main_call14_c_6 : Ref sig .tc := ⟨.hbm, 661, rfl⟩
abbrev main_call14_v24 : Ref sig .tc := ⟨.hbm, 662, rfl⟩
abbrev main_call14_v25 : Ref sig .tc := ⟨.hbm, 663, rfl⟩
abbrev main_call14_v26 : Ref sig .tc := ⟨.hbm, 664, rfl⟩
abbrev main_v154_1 : Ref sig .tc := ⟨.hbm, 665, rfl⟩
abbrev main_v155 : Ref sig .tc := ⟨.hbm, 666, rfl⟩
abbrev main_v156 : Ref sig .tc := ⟨.hbm, 667, rfl⟩
abbrev main_v157 : Ref sig .tc := ⟨.hbm, 668, rfl⟩
abbrev main_v158 : Ref sig .tc := ⟨.hbm, 669, rfl⟩
abbrev main_c_37 : Ref sig .tc := ⟨.hbm, 670, rfl⟩
abbrev main_v159 : Ref sig .tc := ⟨.hbm, 671, rfl⟩
abbrev main_v160 : Ref sig .tc := ⟨.hbm, 672, rfl⟩
abbrev main_call15_v0 : Ref sig .tc := ⟨.hbm, 673, rfl⟩
abbrev main_call15_c : Ref sig .tc := ⟨.hbm, 674, rfl⟩
abbrev main_call15_v1 : Ref sig .tc := ⟨.hbm, 675, rfl⟩
abbrev main_call15_v2 : Ref sig .tc := ⟨.hbm, 676, rfl⟩
abbrev main_call15_c_0 : Ref sig .tc := ⟨.hbm, 677, rfl⟩
abbrev main_call15_v3 : Ref sig .tc := ⟨.hbm, 678, rfl⟩
abbrev main_call15_v4 : Ref sig .tc := ⟨.hbm, 679, rfl⟩
abbrev main_call15_v5 : Ref sig .tc := ⟨.hbm, 680, rfl⟩
abbrev main_call15_v6 : Ref sig .tc := ⟨.hbm, 681, rfl⟩
abbrev main_call15_v7 : Ref sig .tc := ⟨.hbm, 682, rfl⟩
abbrev main_call15_c_1 : Ref sig .tc := ⟨.hbm, 683, rfl⟩
abbrev main_call15_v8 : Ref sig .tc := ⟨.hbm, 684, rfl⟩
abbrev main_call15_v9 : Ref sig .tc := ⟨.hbm, 685, rfl⟩
abbrev main_call15_c_2 : Ref sig .tc := ⟨.hbm, 686, rfl⟩
abbrev main_call15_v10 : Ref sig .tc := ⟨.hbm, 687, rfl⟩
abbrev main_call15_v11 : Ref sig .tc := ⟨.hbm, 688, rfl⟩
abbrev main_call15_v12 : Ref sig .tc := ⟨.hbm, 689, rfl⟩
abbrev main_call15_v13 : Ref sig .tc := ⟨.hbm, 690, rfl⟩
abbrev main_call15_v14 : Ref sig .tc := ⟨.hbm, 691, rfl⟩
abbrev main_call15_c_3 : Ref sig .tc := ⟨.hbm, 692, rfl⟩
abbrev main_call15_v15 : Ref sig .tc := ⟨.hbm, 693, rfl⟩
abbrev main_call15_v16 : Ref sig .tc := ⟨.hbm, 694, rfl⟩
abbrev main_call15_c_4 : Ref sig .tc := ⟨.hbm, 695, rfl⟩
abbrev main_call15_v17 : Ref sig .tc := ⟨.hbm, 696, rfl⟩
abbrev main_call15_v18 : Ref sig .tc := ⟨.hbm, 697, rfl⟩
abbrev main_call15_v19 : Ref sig .tc := ⟨.hbm, 698, rfl⟩
abbrev main_call15_v20 : Ref sig .tc := ⟨.hbm, 699, rfl⟩
abbrev main_v161_0 : Ref sig .tc := ⟨.hbm, 700, rfl⟩
abbrev main_call15_c_5 : Ref sig .tc := ⟨.hbm, 701, rfl⟩
abbrev main_call15_v22 : Ref sig .tc := ⟨.hbm, 702, rfl⟩
abbrev main_call15_v23 : Ref sig .tc := ⟨.hbm, 703, rfl⟩
abbrev main_call15_c_6 : Ref sig .tc := ⟨.hbm, 704, rfl⟩
abbrev main_call15_v24 : Ref sig .tc := ⟨.hbm, 705, rfl⟩
abbrev main_call15_v25 : Ref sig .tc := ⟨.hbm, 706, rfl⟩
abbrev main_call15_v26 : Ref sig .tc := ⟨.hbm, 707, rfl⟩
abbrev main_v161_1 : Ref sig .tc := ⟨.hbm, 708, rfl⟩
abbrev main_v162 : Ref sig .tc := ⟨.hbm, 709, rfl⟩
abbrev main_v163 : Ref sig .tc := ⟨.hbm, 710, rfl⟩
abbrev main_v164 : Ref sig .tc := ⟨.hbm, 711, rfl⟩
abbrev main_v165 : Ref sig .tc := ⟨.hbm, 712, rfl⟩
abbrev main_c_38 : Ref sig .tc := ⟨.hbm, 713, rfl⟩
abbrev main_v166 : Ref sig .tc := ⟨.hbm, 714, rfl⟩
abbrev main_v167 : Ref sig .tc := ⟨.hbm, 715, rfl⟩
abbrev main_call16_v0 : Ref sig .tc := ⟨.hbm, 716, rfl⟩
abbrev main_call16_c : Ref sig .tc := ⟨.hbm, 717, rfl⟩
abbrev main_call16_v1 : Ref sig .tc := ⟨.hbm, 718, rfl⟩
abbrev main_call16_v2 : Ref sig .tc := ⟨.hbm, 719, rfl⟩
abbrev main_call16_c_0 : Ref sig .tc := ⟨.hbm, 720, rfl⟩
abbrev main_call16_v3 : Ref sig .tc := ⟨.hbm, 721, rfl⟩
abbrev main_call16_v4 : Ref sig .tc := ⟨.hbm, 722, rfl⟩
abbrev main_call16_v5 : Ref sig .tc := ⟨.hbm, 723, rfl⟩
abbrev main_call16_v6 : Ref sig .tc := ⟨.hbm, 724, rfl⟩
abbrev main_call16_v7 : Ref sig .tc := ⟨.hbm, 725, rfl⟩
abbrev main_call16_c_1 : Ref sig .tc := ⟨.hbm, 726, rfl⟩
abbrev main_call16_v8 : Ref sig .tc := ⟨.hbm, 727, rfl⟩
abbrev main_call16_v9 : Ref sig .tc := ⟨.hbm, 728, rfl⟩
abbrev main_call16_c_2 : Ref sig .tc := ⟨.hbm, 729, rfl⟩
abbrev main_call16_v10 : Ref sig .tc := ⟨.hbm, 730, rfl⟩
abbrev main_call16_v11 : Ref sig .tc := ⟨.hbm, 731, rfl⟩
abbrev main_call16_v12 : Ref sig .tc := ⟨.hbm, 732, rfl⟩
abbrev main_call16_v13 : Ref sig .tc := ⟨.hbm, 733, rfl⟩
abbrev main_call16_v14 : Ref sig .tc := ⟨.hbm, 734, rfl⟩
abbrev main_call16_c_3 : Ref sig .tc := ⟨.hbm, 735, rfl⟩
abbrev main_call16_v15 : Ref sig .tc := ⟨.hbm, 736, rfl⟩
abbrev main_call16_v16 : Ref sig .tc := ⟨.hbm, 737, rfl⟩
abbrev main_call16_c_4 : Ref sig .tc := ⟨.hbm, 738, rfl⟩
abbrev main_call16_v17 : Ref sig .tc := ⟨.hbm, 739, rfl⟩
abbrev main_call16_v18 : Ref sig .tc := ⟨.hbm, 740, rfl⟩
abbrev main_call16_v19 : Ref sig .tc := ⟨.hbm, 741, rfl⟩
abbrev main_call16_v20 : Ref sig .tc := ⟨.hbm, 742, rfl⟩
abbrev main_v168_0 : Ref sig .tc := ⟨.hbm, 743, rfl⟩
abbrev main_call16_c_5 : Ref sig .tc := ⟨.hbm, 744, rfl⟩
abbrev main_call16_v22 : Ref sig .tc := ⟨.hbm, 745, rfl⟩
abbrev main_call16_v23 : Ref sig .tc := ⟨.hbm, 746, rfl⟩
abbrev main_call16_c_6 : Ref sig .tc := ⟨.hbm, 747, rfl⟩
abbrev main_call16_v24 : Ref sig .tc := ⟨.hbm, 748, rfl⟩
abbrev main_call16_v25 : Ref sig .tc := ⟨.hbm, 749, rfl⟩
abbrev main_call16_v26 : Ref sig .tc := ⟨.hbm, 750, rfl⟩
abbrev main_v168_1 : Ref sig .tc := ⟨.hbm, 751, rfl⟩
abbrev main_v169 : Ref sig .tc := ⟨.hbm, 752, rfl⟩
abbrev main_v170 : Ref sig .tc := ⟨.hbm, 753, rfl⟩
abbrev main_v171 : Ref sig .tc := ⟨.hbm, 754, rfl⟩
abbrev main_v172 : Ref sig .tc := ⟨.hbm, 755, rfl⟩
abbrev main_c_39 : Ref sig .tc := ⟨.hbm, 756, rfl⟩
abbrev main_v173 : Ref sig .tc := ⟨.hbm, 757, rfl⟩
abbrev main_v174 : Ref sig .tc := ⟨.hbm, 758, rfl⟩
abbrev main_v175 : Ref sig .tc := ⟨.hbm, 759, rfl⟩
abbrev main_c_40 : Ref sig .tc := ⟨.hbm, 760, rfl⟩
abbrev main_v176 : Ref sig .tc := ⟨.hbm, 761, rfl⟩
abbrev main_v177 : Ref sig .tc := ⟨.hbm, 762, rfl⟩
abbrev main_c_41 : Ref sig .tc := ⟨.hbm, 763, rfl⟩
abbrev main_v178 : Ref sig .tc := ⟨.hbm, 764, rfl⟩
abbrev main_v179 : Ref sig .tc := ⟨.hbm, 765, rfl⟩
abbrev main_v180 : Ref sig .tc := ⟨.hbm, 766, rfl⟩
abbrev main_cst_42 : Ref sig .tc := ⟨.hbm, 767, rfl⟩
abbrev main_v181 : Ref sig .tc := ⟨.hbm, 768, rfl⟩
abbrev main_v182 : Ref sig .tc := ⟨.hbm, 769, rfl⟩
abbrev main_cst_43 : Ref sig .tc := ⟨.hbm, 770, rfl⟩
abbrev main_v183 : Ref sig .tc := ⟨.hbm, 771, rfl⟩
abbrev main_v184 : Ref sig .tc := ⟨.hbm, 772, rfl⟩
abbrev main_cst_44 : Ref sig .tc := ⟨.hbm, 773, rfl⟩
abbrev main_v185 : Ref sig .tc := ⟨.hbm, 774, rfl⟩
abbrev main_v186 : Ref sig .tc := ⟨.hbm, 775, rfl⟩
abbrev main_cst_45 : Ref sig .tc := ⟨.hbm, 776, rfl⟩
abbrev main_v187 : Ref sig .tc := ⟨.hbm, 777, rfl⟩
abbrev main_v188 : Ref sig .tc := ⟨.hbm, 778, rfl⟩
abbrev main_v189 : Ref sig .tc := ⟨.hbm, 779, rfl⟩
abbrev main_v190 : Ref sig .tc := ⟨.hbm, 780, rfl⟩

abbrev nD : Nat := 1
abbrev τ : Topo := Topo.v7x

variable {F : FTy → Type} [FloatOps F]
-- ==== Proof.KernelIdealBody.lean ====
/-
  The kernel body of the idealized program, run once on staging buffers held at any contents: what it stores into its
  two result buffers, as functions of what the two input buffers hold.
-/
module

public import proofs.«01_k».proof.Proof.Gen.KernelIdeal.Loops
public import proofs.«01_k».proof.Proof.Gen.KernelIdeal.Frame
public import Idealize.ShloMosaic.Lib.Tactic
public import Idealize.ShloMosaic.Lib.VecWindow
public import Idealize.ShloMosaic.Lib.Pipeline.TableIdle

@[expose] public section

set_option maxRecDepth 65536
set_option maxHeartbeats 4000000

noncomputable section

namespace Cert.KernelIdealProof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A buffer stored to in full is owned at what was stored. -/
theorem owns_stored (c : Thread nD τ) {sp : Space} {s : Shape} {e : EltTy} (M : Memref sig c.2.kind sp s e)
    (f : M.view.ty.Contents (Elt F)) (off : Fin s.rank → ℕ) (inb : ∀ a, off a + s.size a ≤ s.size a) (w : s.Idx → Elt F e) :
    (M.view.loc c ↦[M.view.set]{fullShare} M.view.writes (Elt F) f [⟨Rect.unit off s.size inb, w⟩])
      ⊢ (owns c M fullShare w : sProp 𝕄) := by
  unfold owns
  iintro H
  iexists _
  isplitr
  · ipureintro; exact View.read_writes_full M.view f inb w []
  · iexact H

/-- What the body stores: into the samples' buffer and into the comparisons' buffer. -/
abbrev Stored (F : FTy → Type) : Type := IVec S8x2 32 × FVec F S8x1 .f32

/-- The body run once: the input buffers come back as they were, and each result buffer ends reading what was stored. -/
@[irreducible] def bodyRun (c : Dev nD) (i : grid0.Coords)
    (a1 : Memref sig .tc .vmem S8x100352 .f32) (h1 : a1.IsWhole) (a2 : Memref sig .tc .vmem S8x1 .f32) (h2 : a2.IsWhole)
    (a3 : Memref sig .tc .vmem S8x2 .i32) (h3 : a3.IsWhole) (a4 : Memref sig .tc .vmem S8x1 .f32) (h4 : a4.IsWhole)
    (f1 : BufTy.Contents (Elt F) a1.view.ty) (f2 : BufTy.Contents (Elt F) a2.view.ty) :
    { o : Stored F // ∀ (E : Set ℕ) (f3 : BufTy.Contents (Elt F) a3.view.ty) (f4 : BufTy.Contents (Elt F) a4.view.ty)
        (K : PUnit → sProp 𝕄),
      iprop((a1.view.loc (c : Thread nD τ) ↦[a1.view.set]{fullShare} f1) ∗ (a2.view.loc (c : Thread nD τ) ↦[a2.view.set]{fullShare} f2)
          ∗ (a3.view.loc (c : Thread nD τ) ↦[a3.view.set]{fullShare} f3) ∗ (a4.view.loc (c : Thread nD τ) ↦[a4.view.set]{fullShare} f4)
          ∗ (iprop((a1.view.loc (c : Thread nD τ) ↦[a1.view.set]{fullShare} f1) ∗ (a2.view.loc (c : Thread nD τ) ↦[a2.view.set]{fullShare} f2)
              ∗ owns (c : Thread nD τ) a3 fullShare o.1 ∗ owns (c : Thread nD τ) a4 fullShare o.2) -∗ K ⟨⟩))
        ⊢ wp frame (wpE (defs₀ (F := F)) Variants.none c none) E (cc0__kern (F := F) i a1 h1 a2 h2 a3 h3 a4 h4) K } := by
  refine ⟨(?o3, ?o4), fun E f3 f4 K => ?run⟩
  case run =>
    rw [cc0__kern_eq_skeleton]
    unfold cc0__kern_skel
    iintro ⟨H1, H2, H3, H4, Hk⟩
    sl_exec
    sl_step
    iapply Hk
    isplitl [H1]; · iexact H1
    isplitl [H2]; · iexact H2
    dsimp only
    isplitl [H3]
    · iapply (owns_stored (F := F) (c : Thread nD τ) a3 f3 ![0, 0] inb_S8x2_S8x2_0_0 ?o3)
      iexact H3
    · iapply (owns_stored (F := F) (c : Thread nD τ) a4 f4 ![0, 0] inb_S8x1_S8x1_0_0 ?o4)
      iexact H4

/-- The run with every staging buffer owned. -/
theorem sound_body (c : Dev nD) (E : Set ℕ) (i : grid0.Coords)
    (a1 : Memref sig .tc .vmem S8x100352 .f32) (h1 : a1.IsWhole) (a2 : Memref sig .tc .vmem S8x1 .f32) (h2 : a2.IsWhole)
    (a3 : Memref sig .tc .vmem S8x2 .i32) (h3 : a3.IsWhole) (a4 : Memref sig .tc .vmem S8x1 .f32) (h4 : a4.IsWhole)
    (X1 : S8x100352.Idx → Elt F .f32) (X2 : S8x1.Idx → Elt F .f32) (X3 : S8x2.Idx → Elt F .i32) (X4 : S8x1.Idx → Elt F .f32)
    (K : PUnit → sProp 𝕄) :
    iprop(owns (c : Thread nD τ) a1 fullShare X1 ∗ owns (c : Thread nD τ) a2 fullShare X2
        ∗ owns (c : Thread nD τ) a3 fullShare X3 ∗ owns (c : Thread nD τ) a4 fullShare X4
        ∗ (iprop(owns (c : Thread nD τ) a1 fullShare X1 ∗ owns (c : Thread nD τ) a2 fullShare X2
            ∗ owns (c : Thread nD τ) a3 fullShare (bodyRun (F := F) c i a1 h1 a2 h2 a3 h3 a4 h4 (a1.view.rep X1) (a2.view.rep X2)).1.1
            ∗ owns (c : Thread nD τ) a4 fullShare (bodyRun (F := F) c i a1 h1 a2 h2 a3 h3 a4 h4 (a1.view.rep X1) (a2.view.rep X2)).1.2) -∗ K ⟨⟩))
      ⊢ wp frame (wpE (defs₀ (F := F)) Variants.none c none) E (cc0__kern (F := F) i a1 h1 a2 h2 a3 h3 a4 h4) K := by
  rw [Idealize.ShloMosaic.owns_eq_rep (c : Thread nD τ) a1, Idealize.ShloMosaic.owns_eq_rep (c : Thread nD τ) a2,
    Idealize.ShloMosaic.owns_eq_rep (c : Thread nD τ) a3 _ X3, Idealize.ShloMosaic.owns_eq_rep (c : Thread nD τ) a4 _ X4]
  exact (bodyRun (F := F) c i a1 h1 a2 h2 a3 h3 a4 h4 (a1.view.rep X1) (a2.view.rep X2)).2 E (a3.view.rep X3) (a4.view.rep X4) K

end Cert.KernelIdealProof

end
-- ==== Proof.KernelIdealFrame.lean ====
/-
  The frame of the program KernelIdeal: whatever the inputs hold, it ends with its arguments as they were and every
  semaphore counter at zero. Nothing is said here of what the staging buffers hold from one grid point to the next.
-/
module

public import proofs.«01_k».proof.Proof.KernelIdealBody
public import Idealize.ShloMosaic.Lib.Pipeline.KitQuiescent

@[expose] public section

noncomputable section

namespace Cert.KernelIdealProof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Proof data that names only the arrays' contents at the region's entry. -/
def frameDats (_ : Fin 1) (c : Dev nD) : Dat τ (Elt F) Unit ℕ (UR sig nD τ) ℕ cfg0 c where
  A w := V m c (Pipeline.arrRef spec0 w)
  after w t := fun _ => Classical.choice inferInstance
  Φ _ := Pipeline.ΦA cfg0.spec c
  q _ := fullShare
  owed _ := 0

/-- No staging buffer's contents are tracked. -/
abbrev untracked : Fin cfg0.W → Bool := fun _ => true

theorem frame_obligation (c : Dev nD) :
    BodyObligationLoose (frameDats m 0 c) (defs₀ (F := F)) Variants.none () Set.univ untracked := fun t => by
  rw [bigSep_W0]
  simp only
  rw [show (frameDats m 0 c).Φ t.succ = (frameDats m 0 c).Φ t.castSucc from rfl,
    show (frameDats m 0 c).owesAt () t.succ = (frameDats m 0 c).owesAt () t.castSucc from rfl]
  iintro ⟨HΦ, Ho, ⟨%d0, H0⟩, ⟨%d1, H1⟩, ⟨%d2, H2⟩, ⟨%d3, H3⟩⟩
  iapply (sound_body (F := F) c Set.univ (grid0.coords t) (stage0_0 (cfg0.slots t 0)) (hstage0_0 (cfg0.slots t 0))
    (stage0_1 (cfg0.slots t 1)) (hstage0_1 (cfg0.slots t 1)) (stage0_2 (cfg0.slots t 2)) (hstage0_2 (cfg0.slots t 2))
    (stage0_3 (cfg0.slots t 3)) (hstage0_3 (cfg0.slots t 3)) d0 d1 d2 d3 _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexists _; iexact H0
  isplitl [H1]; · iexists _; iexact H1
  isplitl [H2]; · iexists _; iexact H2
  iexists _; iexact H3

/-- The buffers the host line after the region writes. -/
theorem tail_writes : ∀ ops ∈ ([hostOps1] : List (List (HloOp τ sig (Elt F)))), ∀ op ∈ ops, ∀ b : Ref sig .tc,
    Proc.devRef .tc b ∈ op.writes → b ∈ ({main_v2} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  rw [Finset.mem_singleton]
  by_contra hne
  exact StableHlo.devRef_ne_of_ne hne hb

set_option backward.isDefEq.respectTransparency.types false in
/-- From any memory with zero counters the program ends, its arguments unchanged, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_around_T_forget cfgs (frameDats m) (0 : Fin 1) launch0 defs₀ Variants.none untracked {main_v2} m ρ main
    (frame_obligation m) (fun c => (frameDats m 0 c).share_full fun _ => rfl) (fun _ _ => rfl)
    (V0 m) [hostOps1] sfx_sub sfx_fresh sfx_keeps tail_writes (hmain m Variants.none)
    (fun _ _ => rfl) (fun _ _ => rfl) _
    (fun r h => ⟨fun c => ⟨(h.1.arr_in c 0 rfl).trans (V_main_arg0 m c),
      ((h.1 c).2 main_arg1 (by
        rw [Finset.mem_sdiff]
        exact ⟨Pipeline.mem_restRefs_of main_arg1 (by decide) (by decide), by decide⟩)).trans (V_main_arg1 m c)⟩, h.2⟩)

end Cert.KernelIdealProof

end
-- ==== Proof.KernelIdealSteps.lean ====
/-
  What one trip of the kernel's loop yields and what its body stores, as compositions of one step over a block of
  512 columns: the hash of the lanes' positions, the Gumbel draw made of it, and the running maximum it enters.
-/
module

public import proofs.«01_k».proof.Proof.KernelIdealBody
public import Idealize.ShloMosaic.Lib.Pipeline.Regions

@[expose] public section

set_option maxRecDepth 65536
set_option maxHeartbeats 4000000

noncomputable section

namespace Cert.KernelIdealProof

open Cert.KernelIdeal Cert.KernelIdeal.Gen
open Idealize.ShloMosaic Idealize.ShloMosaic.TcCoe Idealize.ShloMosaic.Tactic
open Idealize.SL Idealize.SL.Sem

variable {F : FTy → Type} [FloatOps F]

section Mix

variable {s : Shape} {β : Type}

/-- A word of every lane turned left by `a` bits, `b` being 32 − a. -/
def rotV (a b : BitVec 32) (x : IVec s 32) : IVec s 32 :=
  ori (shli x (broadcast s a)) (shrui x (broadcast s b))

/-- Four rounds, the first word holding the two words' sum at entry. -/
def roundsV (a₁ b₁ a₂ b₂ a₃ b₃ a₄ b₄ : BitVec 32) (x0 x1 : IVec s 32) (K : IVec s 32 → IVec s 32 → β) : β :=
  let y₁ := xori x0 (rotV a₁ b₁ x1)
  let z₁ := addi x0 y₁
  let y₂ := xori z₁ (rotV a₂ b₂ y₁)
  let z₂ := addi z₁ y₂
  let y₃ := xori z₂ (rotV a₃ b₃ y₂)
  let z₃ := addi z₂ y₃
  let y₄ := xori z₃ (rotV a₄ b₄ y₃)
  K z₃ y₄

/-- The rounds of even position, then the key's words `k` and `k'` added. -/
def evenV (k k' : BitVec 32) (x0 x1 : IVec s 32) (K : IVec s 32 → IVec s 32 → β) : β :=
  roundsV 13#32 19#32 15#32 17#32 26#32 6#32 6#32 26#32 x0 x1 fun z y =>
    K (addi z (broadcast s k)) (addi y (broadcast s k'))

/-- The rounds of odd position, then the key's words `k` and `k'` added. -/
def oddV (k k' : BitVec 32) (x0 x1 : IVec s 32) (K : IVec s 32 → IVec s 32 → β) : β :=
  roundsV 17#32 15#32 29#32 3#32 16#32 16#32 24#32 8#32 x0 x1 fun z y =>
    K (addi z (broadcast s k)) (addi y (broadcast s k'))

/-- The hash of every lane from its first round's sum and second word, under the key (k0, k1, k2). -/
def mixV (k0 k1 k2 : BitVec 32) (x0 x1 : IVec s 32) : IVec s 32 :=
  evenV k1 (Scalar.addi k2 1#32) x0 x1 fun z y =>
  oddV k2 (Scalar.addi k0 2#32) (addi z y) y fun z y =>
  evenV k0 (Scalar.addi k1 3#32) (addi z y) y fun z y =>
  oddV k1 (Scalar.addi k2 4#32) (addi z y) y fun z y =>
  evenV k2 (Scalar.addi k0 5#32) (addi z y) y fun z y =>
  xori z y

/-- A word's upper bits as a number of [0, 1). -/
def unitV (b : IVec s 32) : FVec F s .f32 :=
  subf (bitcastToFloat .f32 (ori (shrui b (broadcast s 9#32)) (broadcast s 1065353216#32)))
    (broadcast s (Scalar.ofBits .f32 0x3F800000#32))

/-- The Gumbel draw made of a word. -/
def gumbelV (b : IVec s 32) : FVec F s .f32 :=
  subf (broadcast s (Scalar.ofBits .f32 0x00000000#32))
    (log (subf (broadcast s (Scalar.ofBits .f32 0x00000000#32))
      (log (addf (unitV b) (broadcast s (Scalar.ofBits .f32 0x00800000#32))))))

end Mix

/-- The words of the key of the samples' draws. -/
abbrev kA : BitVec 32 := 1832780943#32
abbrev kB : BitVec 32 := 270669613#32

/-- The running maximum of one of the two draws, and the step it was met at, in every lane. -/
abbrev Half (F : FTy → Type) : Type := FVec F S8x512 .f32 × IVec S8x512 32

abbrev Carry (F : FTy → Type) : Type := FVec F S8x512 .f32 × IVec S8x512 32 × FVec F S8x512 .f32 × IVec S8x512 32

/-- The perturbed entries of a step: the entries loaded, each plus its Gumbel draw, the position offset by `off`. -/
def drawV (v9 : BitVec 32) (i : grid0.Coords) (x : FVec F S8x512 .f32) (off : BitVec 32) : FVec F S8x512 .f32 :=
  addf x (gumbelV (mixV kA kB v9 (addi (k0_pay2765 i) (broadcast S8x512 off)) (addi (k0_pay2764 i) (broadcast S8x512 off))))

/-- A running maximum with a step's values entered. -/
def enterV (v : FVec F S8x512 .f32) (t : BitVec 32) (av : FVec F S8x512 .f32) (ai : IVec S8x512 32)
    {β : Type} (K : FVec F S8x512 .f32 → IVec S8x512 32 → β) : β :=
  K (select (cmpf .ogt v av) v av) (select (cmpf .ogt v av) (broadcast S8x512 t) ai)

/-- The step numbered `t` over the entries `x` at column offset `off`. -/
def stepV (v9 : BitVec 32) (i : grid0.Coords) (x : FVec F S8x512 .f32) (t off : BitVec 32) (a : Carry F) : Carry F :=
  enterV (drawV v9 i x off) t a.1 a.2.1 fun p q =>
  enterV (drawV v9 i x (Scalar.addi off 102400000#32)) t a.2.2.1 a.2.2.2 fun r u =>
  (p, q, r, u)

/-- A fold over the numbers below `n`, in order. -/
def foldBelow {C : Type} : (n : ℕ) → (∀ k, k < n → C → C) → C → C
  | 0, _, a => a
  | n + 1, f, a => f n (Nat.lt_succ_self n) (foldBelow n (fun k hk => f k (Nat.lt_succ_of_lt hk)) a)

section Body

variable (c : Dev nD) (i : grid0.Coords)
    (a1 : Memref sig .tc .vmem S8x100352 .f32) (h1 : a1.IsWhole) (a2 : Memref sig .tc .vmem S8x1 .f32) (h2 : a2.IsWhole)
    (a3 : Memref sig .tc .vmem S8x2 .i32) (h3 : a3.IsWhole) (a4 : Memref sig .tc .vmem S8x1 .f32) (h4 : a4.IsWhole)
    (f1 : BufTy.Contents (Elt F) a1.view.ty) (f2 : BufTy.Contents (Elt F) a2.view.ty)

/-- What step `k` of trip `t` loads. -/
def loadT (t : Fin k0_t1_loop.trips) (k : Fin 32) : FVec F S8x512 .f32 :=
  a1.view.readAt (Elt F) (Rect.unit (s := S8x100352) (k0_off1 t (BitVec.ofNat 32 k.val)) S8x512.size (k0_off1_inb t k)).toLoadRect f1

/-- Step `k` of trip `t`. -/
def tripStep (v9 : BitVec 32) (t : Fin k0_t1_loop.trips) (k : Fin 32) (a : Carry F) : Carry F :=
  stepV v9 i (loadT a1 f1 t k) (Scalar.addi (Scalar.muli 32#32 (Scf.iv 0#32 1#32 t)) (BitVec.ofNat 32 k.val))
    (Scalar.muli (Scalar.addi (Scalar.muli 32#32 (Scf.iv 0#32 1#32 t)) (BitVec.ofNat 32 k.val)) 512#32) a

/-- One trip is its 32 steps. -/
theorem trip_steps (v9 : BitVec 32) (t : Fin k0_t1_loop.trips) (acc : Carry F) :
    tripR_k0_t1 (F := F) Variants.none c none i a1 h1 a2 h2 a3 h3 a4 h4 v9 f1 t acc
      = foldBelow 32 (fun k hk a => tripStep i a1 f1 v9 t ⟨k, hk⟩ a) acc := by
  unfold tripR_k0_t1 trip_k0_t1
  chain_rfl

/-- What step 192 + `k`, after the loop, loads. -/
def loadP (k : Fin 4) : FVec F S8x512 .f32 :=
  a1.view.readAt (Elt F) (Rect.unit (s := S8x100352) (k0_off2 (BitVec.ofNat 32 (192 + k.val))) S8x512.size (k0_off2_inb k)).toLoadRect f1

/-- The key's third word, as the run has it. -/
abbrev kC : BitVec 32 := 1724713080#32

/-- Step 192 + `k`, after the loop. -/
def postStep (k : Fin 4) (a : Carry F) : Carry F :=
  stepV kC i (loadP a1 f1 k) (BitVec.ofNat 32 (192 + k.val)) (Scalar.muli (BitVec.ofNat 32 (192 + k.val)) 512#32) a

/-- The columns' positions in a block. -/
abbrev colV : IVec S8x512 32 := iota .tc S8x512 32 [1] iota_S8x512_d1_w32

/-- Values past the last column, of the last step, put at −∞. -/
def maskV (v : FVec F S8x512 .f32) : FVec F S8x512 .f32 :=
  select (cmpi .slt (addi colV (broadcast S8x512 (Scalar.muli 195#32 512#32))) (broadcast S8x512 100000#32)) v
    (broadcast S8x512 (Scalar.ofBits .f32 0xFF800000#32))

/-- The last step. -/
def lastStep (a : Carry F) : Carry F :=
  enterV (maskV (drawV kC i (loadP a1 f1 3) (Scalar.muli 195#32 512#32))) 195#32 a.1 a.2.1 fun p q =>
  enterV (maskV (drawV kC i (loadP a1 f1 3) (Scalar.addi (Scalar.muli 195#32 512#32) 102400000#32))) 195#32 a.2.2.1 a.2.2.2 fun r u =>
  (p, q, r, u)

/-- The first column at which a row attains its maximum over the lanes. -/
def pickV (av : FVec F S8x512 .f32) (ai : IVec S8x512 32) : IVec S8x1 32 :=
  shapeCast S8x1 (multiReductionI .minsi [1] S8
    (select (cmpf .oeq av (broadcastTo S8x512 (shapeCast S8x1 (multiReduction .maximumf [1] S8 av 0xFF800000#32 reduces_S8x512_S8 (.inl rfl) rfl)
        shapeCasts_S8_S8x1) broadcasts_S8x1_S8x512))
      (addi (muli ai (broadcast S8x512 512#32)) colV) (broadcast S8x512 2147483647#32))
    2147483647#32 reduces_S8x512_S8 rfl) shapeCasts_S8_S8x1

/-- The carried values before the loop. -/
def initV : Carry F := (k0_pay2766 (F := F), k0_pay2767, k0_pay2768 (F := F), k0_pay2769)

/-- The carried values after the last step. -/
def carryEnd : Carry F :=
  lastStep i a1 f1 (postStep i a1 f1 2 (postStep i a1 f1 1 (postStep i a1 f1 0
    (st_k0_t1 (F := F) Variants.none c none i a1 h1 a2 h2 a3 h3 a4 h4 kC f1 initV (Scf.trips k0_t1_loop.lb k0_t1_loop.ub k0_t1_loop.st)))))

/-- The samples the body stores. -/
theorem body_samples : (bodyRun (F := F) c i a1 h1 a2 h2 a3 h3 a4 h4 f1 f2).1.1
    = concatenate S8x2 1 [⟨S8x1, pickV (carryEnd c i a1 h1 a2 h2 a3 h3 a4 h4 f1).1 (carryEnd c i a1 h1 a2 h2 a3 h3 a4 h4 f1).2.1⟩,
        ⟨S8x1, pickV (carryEnd c i a1 h1 a2 h2 a3 h3 a4 h4 f1).2.2.1 (carryEnd c i a1 h1 a2 h2 a3 h3 a4 h4 f1).2.2.2⟩]
        concatenates_S8x1_S8x1_S8x2_d1 := by
  unfold bodyRun
  chain_rfl

/-- The words of the key of the comparisons' draws. -/
abbrev qA : BitVec 32 := 64467757#32
abbrev qB : BitVec 32 := 2916123636#32
abbrev qC : BitVec 32 := 3050711811#32

/-- The rows of a block. -/
abbrev rowV (i : grid0.Coords) : IVec S8x1 32 :=
  addi (iota .tc S8x1 32 [0] iota_S8x1_d0_w32) (broadcast S8x1 (Scalar.muli (BitVec.ofNat 32 (i 0).val) 8#32))

/-- The uniform draws of a block's rows. -/
def rowDraw : FVec F S8x1 .f32 :=
  maximumf (addf (mulf (unitV (mixV qA qB qC (addi (rowV i) (broadcast S8x1 (Scalar.addi qA qB))) (addi (rowV i) (broadcast S8x1 qB))))
      (broadcast S8x1 (Scalar.ofBits .f32 0x3F800000#32))) (broadcast S8x1 (Scalar.ofBits .f32 0x00000000#32)))
    (broadcast S8x1 (Scalar.ofBits .f32 0x00000000#32))

/-- The comparisons the body stores. -/
theorem body_nots : (bodyRun (F := F) c i a1 h1 a2 h2 a3 h3 a4 h4 f1 f2).1.2
    = sitofp .f32 (extui 32 (cmpf .olt (rowDraw (F := F) i) (shapeCast S8x1
        (a2.view.readAt (Elt F) (Rect.unit (s := S8x1) ![0, 0] S8x1.size inb_S8x1_S8x1_0_0).toLoadRect f2) shapeCasts_S8x1_S8x1)) natLt_1_32) := by
  unfold bodyRun
  chain_rfl

end Body

end Cert.KernelIdealProof

end
-- ==== Proof.Hash.lean ====
/-
  The hash and the draws at one position, free of either program: the words of Threefry-2x32 from the first round's
  sum on, the number of [0, 1) made of a word, and the Gumbel draw made of that, which is always a real number.
-/
module

public import Idealize.ShloMosaic.PureOps.Ideal.Laws
public import Idealize.ShloMosaic.Lib.Pipeline.Value

@[expose] public section

noncomputable section

namespace Cert.Draws

open Idealize.ShloMosaic

/-- A word turned left by `a` bits, `b` being 32 − a. -/
def rot (a b x : BitVec 32) : BitVec 32 := IntOp.ori (IntOp.shli .vector x a) (IntOp.shrui .vector x b)

/-- Four rounds, the first word holding the two words' sum at entry. -/
def rounds (a₁ b₁ a₂ b₂ a₃ b₃ a₄ b₄ : BitVec 32) (x0 x1 : BitVec 32) : BitVec 32 × BitVec 32 :=
  let y₁ := IntOp.xori x0 (rot a₁ b₁ x1)
  let z₁ := IntOp.addi x0 y₁
  let y₂ := IntOp.xori z₁ (rot a₂ b₂ y₁)
  let z₂ := IntOp.addi z₁ y₂
  let y₃ := IntOp.xori z₂ (rot a₃ b₃ y₂)
  let z₃ := IntOp.addi z₂ y₃
  let y₄ := IntOp.xori z₃ (rot a₄ b₄ y₃)
  (z₃, y₄)

/-- The rounds of even position and of odd position, each with the key's words `k` and `k'` added after. -/
def even (k k' x0 x1 : BitVec 32) : BitVec 32 × BitVec 32 :=
  (IntOp.addi (rounds 13#32 19#32 15#32 17#32 26#32 6#32 6#32 26#32 x0 x1).1 k,
    IntOp.addi (rounds 13#32 19#32 15#32 17#32 26#32 6#32 6#32 26#32 x0 x1).2 k')

def odd (k k' x0 x1 : BitVec 32) : BitVec 32 × BitVec 32 :=
  (IntOp.addi (rounds 17#32 15#32 29#32 3#32 16#32 16#32 24#32 8#32 x0 x1).1 k,
    IntOp.addi (rounds 17#32 15#32 29#32 3#32 16#32 16#32 24#32 8#32 x0 x1).2 k')

/-- A group of rounds entered from the pair before it. -/
def next (g : BitVec 32 → BitVec 32 → BitVec 32 × BitVec 32) (p : BitVec 32 × BitVec 32) : BitVec 32 × BitVec 32 :=
  g (IntOp.addi p.1 p.2) p.2

/-- The two words of the hash under the key (k0, k1, k2), from the first round's sum and the second word. -/
def pair (k0 k1 k2 x0 x1 : BitVec 32) : BitVec 32 × BitVec 32 :=
  next (even k2 (k0 + 5#32)) (next (odd k1 (k2 + 4#32)) (next (even k0 (k1 + 3#32)) (next (odd k2 (k0 + 2#32))
    (even k1 (k2 + 1#32) x0 x1))))

/-- The two words xored. -/
def mix (k0 k1 k2 x0 x1 : BitVec 32) : BitVec 32 := IntOp.xori (pair k0 k1 k2 x0 x1).1 (pair k0 k1 k2 x0 x1).2

/-- The 32 bits of position `j`. -/
def word (k0 k1 k2 j : BitVec 32) : BitVec 32 := mix k0 k1 k2 (k0 + (j + k1)) (j + k1)

/-- The word whose float is 1 plus a word's upper 23 bits as a fraction. -/
def onePlus (b : BitVec 32) : BitVec 32 := IntOp.ori (IntOp.shrui .vector b 9#32) 1065353216#32

/-- The number of [0, 1) made of a word. -/
def unitOf (b : BitVec 32) : EReal := Ideal.ofBits .f32 (onePlus b) - Ideal.ofBits .f32 0x3F800000#32

/-- The least positive normal float. -/
def tiny : EReal := Ideal.ofBits .f32 0x00800000#32

/-- The Gumbel draw made of a word. -/
def gumbelOf (b : BitVec 32) : EReal := 0 - Ideal.log (0 - Ideal.log (unitOf b + tiny))

theorem ofBits_one : Ideal.ofBits .f32 0x3F800000#32 = ((1 : ℝ) : EReal) := by
  simp [Ideal.ofBits, Ideal.ieee, -EReal.coe_mul]
  norm_num

theorem ofBits_zero : Ideal.ofBits .f32 0x00000000#32 = 0 := by
  simp [Ideal.ofBits, Ideal.ieee]

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

theorem tiny_eq : tiny = (((2 : ℝ) ^ (-126 : ℤ) : ℝ) : EReal) := by
  simp [tiny, Ideal.ofBits, Ideal.ieee, -EReal.coe_mul]
  congr 1
  norm_num

theorem onePlus_eq (b : BitVec 32) : onePlus b = (b >>> 9) ||| 1065353216#32 := rfl

theorem onePlus_sign (b : BitVec 32) : (onePlus b).extractLsb' 31 1 = 0#1 := by
  rw [onePlus_eq]
  ext i hi
  have : i = 0 := by omega
  subst this
  simp

theorem onePlus_exp (b : BitVec 32) : (onePlus b).extractLsb' 23 8 = 127#8 := by
  rw [onePlus_eq]
  apply BitVec.eq_of_getLsbD_eq
  intro i hi
  have h : b.getLsbD (9 + (23 + i)) = false := BitVec.getLsbD_of_ge _ _ (by omega)
  simp [BitVec.getLsbD_extractLsb', h, hi]
  clear h
  interval_cases i <;> decide +revert

/-- The number made of a word is a real of [0, 1 − 2⁻²³]. -/
theorem unitOf_real (b : BitVec 32) : ∃ r : ℝ, unitOf b = (r : EReal) ∧ 0 ≤ r ∧ r ≤ 1 - (2 : ℝ) ^ (-23 : ℤ) := by
  have hf : ((onePlus b).extractLsb' 0 23).toNat < 2 ^ 23 := BitVec.isLt _
  refine ⟨((onePlus b).extractLsb' 0 23).toNat * (2 : ℝ) ^ (-23 : ℤ), ?_, by positivity, ?_⟩
  · have h : Ideal.ofBits .f32 (onePlus b)
        = (((2 ^ 23 + ((onePlus b).extractLsb' 0 23).toNat : ℕ) * (2 : ℝ) ^ (-23 : ℤ) : ℝ) : EReal) := by
      show Ideal.ieee 8 23 (onePlus b) = _
      unfold Ideal.ieee
      rw [show 8 + 23 = 31 from rfl, onePlus_sign, onePlus_exp]
      simp
    rw [unitOf, h, ofBits_one, ← EReal.coe_sub]
    congr 1
    push_cast
    norm_num
    ring
  · have h : (((onePlus b).extractLsb' 0 23).toNat : ℝ) ≤ 2 ^ 23 - 1 := by
      have : ((onePlus b).extractLsb' 0 23).toNat + 1 ≤ 2 ^ 23 := hf
      have : ((((onePlus b).extractLsb' 0 23).toNat + 1 : ℕ) : ℝ) ≤ ((2 ^ 23 : ℕ) : ℝ) := by exact_mod_cast this
      push_cast at this
      linarith
    calc _ ≤ ((2 : ℝ) ^ 23 - 1) * (2 : ℝ) ^ (-23 : ℤ) := by gcongr
      _ = _ := by norm_num

theorem log_real {r : ℝ} (h : 0 < r) : Ideal.log (r : EReal) = ((Real.log r : ℝ) : EReal) := by
  show (if r ≤ 0 then ⊥ else ((Real.log r : ℝ) : EReal)) = _
  rw [if_neg (not_le.mpr h)]

/-- A Gumbel draw is a real number. -/
theorem gumbelOf_real (b : BitVec 32) : ∃ g : ℝ, gumbelOf b = (g : EReal) := by
  obtain ⟨r, hr, h0, h1⟩ := unitOf_real b
  have ht : (0 : ℝ) < (2 : ℝ) ^ (-126 : ℤ) := by positivity
  have ht' : (2 : ℝ) ^ (-126 : ℤ) < (2 : ℝ) ^ (-23 : ℤ) := by
    apply zpow_lt_zpow_right₀ <;> norm_num
  have hu : 0 < r + (2 : ℝ) ^ (-126 : ℤ) := by linarith
  have hl : Real.log (r + (2 : ℝ) ^ (-126 : ℤ)) < 0 := Real.log_neg hu (by linarith)
  refine ⟨0 - Real.log (0 - Real.log (r + (2 : ℝ) ^ (-126 : ℤ))), ?_⟩
  rw [gumbelOf, hr, tiny_eq, ← EReal.coe_add, log_real hu, ← EReal.coe_zero, ← EReal.coe_sub, log_real (by linarith),
    ← EReal.coe_sub]

end Cert.Draws

end
-- ==== Proof.Argmax.lean ====
/-
  The first position at which a list of extended reals attains its maximum, and three ways of finding it: the least
  position among those that attain the maximum; the same after a real number is added to every entry; and a running
  maximum per lane followed by a maximum and a minimum over the lanes.
-/
module

public import Idealize.ShloMosaic.PureOps.Reduce
public import Idealize.ShloMosaic.PureOps.Ideal.Laws
public import Idealize.ShloMosaic.Lib.Pipeline.Value

@[expose] public section

noncomputable section

namespace Cert.Draws

open Idealize.ShloMosaic

/-- `k` is the first position at which `v` attains its maximum. -/
def IsFirst {n : ℕ} (v : Fin n → EReal) (k : Fin n) : Prop := (∀ j, v j ≤ v k) ∧ ∀ j, j < k → v j < v k

theorem IsFirst.unique {n : ℕ} {v : Fin n → EReal} {k k' : Fin n} (h : IsFirst v k) (h' : IsFirst v k') : k = k' := by
  rcases lt_trichotomy k k' with hl | he | hl
  · exact absurd (h'.2 k hl) (not_lt.mpr (h.1 k'))
  · exact he
  · exact absurd (h.2 k' hl) (not_lt.mpr (h'.1 k))

theorem exists_isFirst {n : ℕ} [NeZero n] (v : Fin n → EReal) : ∃ k, IsFirst v k := by
  obtain ⟨m, hm⟩ := Finite.exists_max v
  obtain ⟨k, hk, hl⟩ := WellFounded.has_min (wellFounded_lt (α := Fin n)) {k | v k = v m} ⟨m, rfl⟩
  refine ⟨k, fun j => (hm j).trans hk.ge, fun j hj => lt_of_le_of_ne ((hm j).trans hk.ge) fun e => ?_⟩
  exact hl j (e.trans hk) hj

theorem add_real_le_iff (a b : EReal) (c : ℝ) : a + c ≤ b + c ↔ a ≤ b := by
  constructor
  · intro h
    have h2 := add_le_add_left h ((-c : ℝ) : EReal)
    rw [add_assoc, add_assoc, ← EReal.coe_add, add_neg_cancel] at h2
    simpa using h2
  · exact fun h => add_le_add_left h _

theorem add_real_lt_iff (a b : EReal) (c : ℝ) : a + c < b + c ↔ a < b := by
  rw [← not_le, ← not_le, add_real_le_iff]

/-- A real number added to every entry changes nothing. -/
theorem IsFirst.shift {n : ℕ} {v w : Fin n → EReal} {k : Fin n} (c : ℝ) (hw : ∀ j, w j = v j + c) :
    IsFirst w k ↔ IsFirst v k := by
  simp only [IsFirst, hw, add_real_le_iff, add_real_lt_iff]

/-! ### Folds -/

theorem fold_max_eq {n : ℕ} (f : Fin n → EReal) (m : EReal) (hle : ∀ k, f k ≤ m) (hmem : ∃ k, f k = m) :
    (Finset.univ : Finset (Fin n)).fold max ⊥ f = m := by
  apply le_antisymm
  · exact Finset.fold_max_le m |>.mpr ⟨bot_le, fun k _ => hle k⟩
  · obtain ⟨k, hk⟩ := hmem
    exact Finset.le_fold_max m |>.mpr (.inr ⟨k, Finset.mem_univ _, hk.ge⟩)

theorem minsi_toInt (a b : BitVec 32) : (IntOp.minsi a b).toInt = min a.toInt b.toInt := by
  unfold IntOp.minsi
  split
  · next h => rw [BitVec.slt_iff_toInt_lt] at h; omega
  · next h => rw [BitVec.slt_iff_toInt_lt] at h; omega

theorem fold_minsi_toInt {ι : Type} [DecidableEq ι] (s : Finset ι) (b : BitVec 32) (f : ι → BitVec 32) :
    (s.fold IntOp.minsi b f).toInt = s.fold min b.toInt (fun k => (f k).toInt) := by
  induction s using Finset.induction_on with
  | empty => simp
  | insert a s ha ih => rw [Finset.fold_insert ha, Finset.fold_insert ha, minsi_toInt, ih]

/-- The least of the words is the one at most every other. -/
theorem fold_minsi_eq {n : ℕ} (f : Fin n → BitVec 32) (b w : BitVec 32) (hb : w.toInt ≤ b.toInt)
    (hle : ∀ k, w.toInt ≤ (f k).toInt) (hmem : ∃ k, f k = w) :
    (Finset.univ : Finset (Fin n)).fold IntOp.minsi b f = w := by
  apply BitVec.eq_of_toInt_eq
  rw [fold_minsi_toInt]
  apply le_antisymm
  · obtain ⟨k, hk⟩ := hmem
    exact Finset.fold_min_le _ |>.mpr (.inr ⟨k, Finset.mem_univ _, by rw [hk]⟩)
  · exact Finset.le_fold_min _ |>.mpr ⟨hb, fun k _ => hle k⟩

theorem toInt_small {a : ℕ} (h : a < 2 ^ 31) : (BitVec.ofNat 32 a).toInt = a := by
  rw [BitVec.toInt_eq_toNat_cond, BitVec.toNat_ofNat, Nat.mod_eq_of_lt (by omega), if_pos (by omega)]

/-! ### The least position that attains the maximum -/

theorem select_oeq {α : Type} (a b : EReal) (x y : α) : Scalar.select (Ideal.cmp .oeq a b) x y = if a = b then x else y := by
  by_cases h : a = b <;> simp [Scalar.select, Ideal.cmp, h]

theorem select_ogt {α : Type} (a b : EReal) (x y : α) : Scalar.select (Ideal.cmp .ogt a b) x y = if b < a then x else y := by
  by_cases h : b < a <;> simp [Scalar.select, Ideal.cmp, h]

/-- The least position among those that attain the maximum is the first. -/
theorem first_of_min {n : ℕ} (hn : n < 2 ^ 31) (v : Fin n → EReal) (k : Fin n) (hk : IsFirst v k) (f : Fin n → BitVec 32)
    (hf : ∀ j, f j = if v j = v k then BitVec.ofNat 32 j.val else BitVec.ofNat 32 n) :
    (Finset.univ : Finset (Fin n)).fold IntOp.minsi 2147483647#32 f = BitVec.ofNat 32 k.val := by
  have hkl := k.isLt
  apply fold_minsi_eq
  · rw [toInt_small (by omega), show (2147483647#32 : BitVec 32).toInt = 2147483647 from by decide]
    omega
  · intro j
    have hjl := j.isLt
    rw [hf]
    split
    · next h =>
      rw [toInt_small (by omega), toInt_small (by omega)]
      by_contra hlt
      have := hk.2 j (by rw [Fin.lt_def]; omega)
      exact absurd h this.ne
    · rw [toInt_small (by omega), toInt_small (by omega)]
      omega
  · exact ⟨k, by rw [hf, if_pos rfl]⟩

/-! ### A running maximum per lane -/

/-- A value met at step `t` entered into a running maximum. -/
def enter (v : EReal) (t : BitVec 32) (p : EReal × BitVec 32) : EReal × BitVec 32 :=
  (Scalar.select (Ideal.cmp .ogt v p.1) v p.1, Scalar.select (Ideal.cmp .ogt v p.1) t p.2)

/-- The running maximum of the first `n` values. -/
def run (w : ℕ → EReal) : ℕ → EReal × BitVec 32
  | 0 => (⊥, 2147483647#32)
  | n + 1 => enter (w n) (BitVec.ofNat 32 n) (run w n)

theorem run_spec (w : ℕ → EReal) (n : ℕ) :
    (∀ t < n, w t ≤ (run w n).1) ∧ ((run w n).1 = ⊥ ∨
      ∃ t < n, (run w n).2 = BitVec.ofNat 32 t ∧ w t = (run w n).1 ∧ ∀ t' < t, w t' < w t) := by
  induction n with
  | zero => exact ⟨fun t ht => absurd ht (Nat.not_lt_zero t), .inl rfl⟩
  | succ n ih =>
    have e : run w (n + 1) = if (run w n).1 < w n then (w n, BitVec.ofNat 32 n) else run w n := by
      show enter _ _ _ = _
      unfold enter
      rw [select_ogt, select_ogt]
      split <;> rfl
    rw [e]
    split
    · next h =>
      refine ⟨fun t ht => ?_, .inr ⟨n, Nat.lt_succ_self n, rfl, rfl, fun t ht => (ih.1 t ht).trans_lt h⟩⟩
      rcases Nat.lt_succ_iff_lt_or_eq.mp ht with h2 | h2
      · exact ((ih.1 t h2).trans_lt h).le
      · rw [h2]
    · next h =>
      refine ⟨fun t ht => ?_, ?_⟩
      · rcases Nat.lt_succ_iff_lt_or_eq.mp ht with h2 | h2
        · exact ih.1 t h2
        · rw [h2]; exact not_lt.mp h
      · rcases ih.2 with h2 | ⟨t, ht, h3⟩
        · exact .inl h2
        · exact .inr ⟨t, Nat.lt_succ_of_lt ht, h3⟩

/-- The value lane `q` meets at step `t`: the entry at column 512 t + q, or −∞ past the last column. -/
def lane (v : Fin 100000 → EReal) (q t : ℕ) : EReal := if h : 512 * t + q < 100000 then v ⟨512 * t + q, h⟩ else ⊥

/-- The maximum over the lanes is the maximum. -/
theorem lanes_max (v : Fin 100000 → EReal) (k : Fin 100000) (hk : IsFirst v k) :
    (Finset.univ : Finset (Fin 512)).fold max ⊥ (fun q => (run (lane v q.val) 196).1) = v k := by
  have hkl := k.isLt
  have hle : ∀ q t, lane v q t ≤ v k := by
    intro q t
    unfold lane
    split
    · exact hk.1 _
    · exact bot_le
  have hub : ∀ q : Fin 512, (run (lane v q.val) 196).1 ≤ v k := by
    intro q
    rcases (run_spec (lane v q.val) 196).2 with h | ⟨t, _, _, h, _⟩
    · rw [h]; exact bot_le
    · rw [← h]; exact hle _ _
  apply fold_max_eq _ _ hub
  refine ⟨⟨k.val % 512, Nat.mod_lt _ (by decide)⟩, le_antisymm (hub _) ?_⟩
  have h := (run_spec (lane v (k.val % 512)) 196).1 (k.val / 512) (by omega)
  have e : lane v (k.val % 512) (k.val / 512) = v k := by
    have e2 : 512 * (k.val / 512) + k.val % 512 = k.val := Nat.div_add_mod _ _
    unfold lane
    rw [dif_pos (by omega)]
    congr 1
    exact Fin.ext e2
  rw [e] at h
  exact h

/-- The least column among those the lanes that attain the maximum kept is the first. -/
theorem lanes_first (v : Fin 100000 → EReal) (k : Fin 100000) (hk : IsFirst v k) (hbot : v k ≠ ⊥) (f : Fin 512 → BitVec 32)
    (hf : ∀ q, f q = if (run (lane v q.val) 196).1 = v k then (run (lane v q.val) 196).2 * 512#32 + BitVec.ofNat 32 q.val
      else 2147483647#32) :
    (Finset.univ : Finset (Fin 512)).fold IntOp.minsi 2147483647#32 f = BitVec.ofNat 32 k.val := by
  have hkl := k.isLt
  have hmax : (2147483647#32 : BitVec 32).toInt = 2147483647 := by decide
  have hcol : ∀ q : Fin 512, (run (lane v q.val) 196).1 = v k → ∃ t, ∃ h : 512 * t + q.val < 100000,
      f q = BitVec.ofNat 32 (512 * t + q.val) ∧ v ⟨512 * t + q.val, h⟩ = v k ∧ ∀ t' < t, lane v q.val t' < v k := by
    intro q hq
    rcases (run_spec (lane v q.val) 196).2 with h | ⟨t, ht, h1, h2, h3⟩
    · exact absurd (hq.symm.trans h) hbot
    · rw [hq] at h2
      by_cases hlt : 512 * t + q.val < 100000
      · refine ⟨t, hlt, ?_, ?_, fun t' ht' => (h3 t' ht').trans_eq h2⟩
        · rw [hf, if_pos hq, h1, ← BitVec.ofNat_mul, ← BitVec.ofNat_add, mul_comm]
        · rw [← h2]; unfold lane; rw [dif_pos hlt]
      · unfold lane at h2; rw [dif_neg hlt] at h2
        exact absurd h2.symm hbot
  apply fold_minsi_eq
  · rw [toInt_small (by omega), hmax]; omega
  · intro q
    by_cases hq : (run (lane v q.val) 196).1 = v k
    · obtain ⟨t, hlt, h1, h2, -⟩ := hcol q hq
      rw [h1, toInt_small (by omega), toInt_small (by omega)]
      by_contra hc
      exact absurd h2 (hk.2 _ (by rw [Fin.lt_def]; show 512 * t + q.val < k.val; omega)).ne
    · rw [hf, if_neg hq, toInt_small (by omega), hmax]; omega
  · have e2 : 512 * (k.val / 512) + k.val % 512 = k.val := Nat.div_add_mod _ _
    have hml : k.val % 512 < 512 := Nat.mod_lt _ (by decide)
    have e : lane v (k.val % 512) (k.val / 512) = v k := by
      unfold lane
      rw [dif_pos (by omega)]
      congr 1
      exact Fin.ext e2
    have hav : (run (lane v (k.val % 512)) 196).1 = v k := by
      apply le_antisymm
      · rcases (run_spec (lane v (k.val % 512)) 196).2 with h | ⟨t, _, _, h, _⟩
        · rw [h]; exact bot_le
        · rw [← h]; unfold lane
          split
          · exact hk.1 _
          · exact bot_le
      · have h := (run_spec (lane v (k.val % 512)) 196).1 (k.val / 512) (by omega)
        rwa [e] at h
    obtain ⟨t, hlt, h1, h2, h3⟩ := hcol ⟨k.val % 512, hml⟩ hav
    refine ⟨⟨k.val % 512, hml⟩, ?_⟩
    rw [h1]
    have hge : ¬ 512 * t + k.val % 512 < k.val := fun hc => absurd h2 (hk.2 _ (by rw [Fin.lt_def]; exact hc)).ne
    have hle : ¬ k.val / 512 < t := fun hc => absurd e (h3 _ hc).ne
    congr 1
    show 512 * t + k.val % 512 = k.val
    omega

end Cert.Draws

end
-- ==== Proof.Score.lean ====
/-
  The perturbed entries both programs rank: an entry of the table plus the Gumbel draw of its position. And the row
  maximum the reference subtracts.
-/
module

public import proofs.«01_k».proof.Proof.Hash
public import proofs.«01_k».proof.Proof.Argmax

@[expose] public section

noncomputable section

namespace Cert.Draws

open Idealize.ShloMosaic

/-- The words of the key of the samples' draws, and of the comparisons'. -/
abbrev sampleWord (j : ℕ) : BitVec 32 := word 1832780943#32 270669613#32 1724713080#32 (BitVec.ofNat 32 j)

abbrev rowWord (j : ℕ) : BitVec 32 := word 64467757#32 2916123636#32 3050711811#32 (BitVec.ofNat 32 j)

/-- Row `o` of the table with the Gumbel draws of sample `s` added. -/
def score (x : Fin 1024 → Fin 100000 → EReal) (s : ℕ) (o : Fin 1024) (i : Fin 100000) : EReal :=
  x o i + gumbelOf (sampleWord ((s * 1024 + o.val) * 100000 + i.val))

/-- The comparison of a row's uniform draw with the row's probability, as a number. -/
def drawn (o : ℕ) (p : EReal) : EReal := if unitOf (rowWord o) < p then 1 else 0

/-- A row's maximum. -/
def rowMax (x : Fin 100000 → EReal) : EReal := (Finset.univ : Finset (Fin 100000)).fold max ⊥ x

theorem rowMax_le (x : Fin 100000 → EReal) (i : Fin 100000) : x i ≤ rowMax x :=
  Finset.le_fold_max _ |>.mpr (.inr ⟨i, Finset.mem_univ _, le_rfl⟩)

/-- A maximum above −∞ is attained. -/
theorem rowMax_mem (x : Fin 100000 → EReal) : ∃ i, x i = rowMax x := by
  obtain ⟨m, hm⟩ := Finite.exists_max x
  exact ⟨m, (fold_max_eq x (x m) hm ⟨m, rfl⟩).symm⟩

theorem coe_sum {ι : Type} (s : Finset ι) (r : ι → ℝ) : ∑ i ∈ s, ((r i : ℝ) : EReal) = ((∑ i ∈ s, r i : ℝ) : EReal) := by
  classical
  induction s using Finset.induction_on with
  | empty => simp
  | insert a s ha ih => rw [Finset.sum_insert ha, Finset.sum_insert ha, ih, EReal.coe_add]

/-- The reference's log-sum of a row whose maximum is a real number is a real number. -/
theorem logSum_real (x : Fin 100000 → EReal) (M : ℝ) (hM : rowMax x = M) :
    ∃ L : ℝ, Ideal.log (0 + ∑ i, Ideal.exp (x i - M)) = L := by
  have hterm : ∀ i, ∃ r : ℝ, 0 ≤ r ∧ Ideal.exp (x i - M) = r := by
    intro i
    have hle := rowMax_le x i
    rw [hM] at hle
    induction h : x i with
    | bot => exact ⟨0, le_rfl, by rw [EReal.bot_sub]; rfl⟩
    | top => rw [h] at hle; exact absurd hle (not_le.mpr (EReal.coe_lt_top M))
    | coe r => exact ⟨Real.exp (r - M), (Real.exp_pos _).le, by rw [← EReal.coe_sub]; rfl⟩
  choose r hr0 hr using hterm
  obtain ⟨k, hk⟩ := rowMax_mem x
  have h1 : r k = 1 := by
    have h := hr k
    rw [hk, hM, ← EReal.coe_sub, sub_self] at h
    have : ((Real.exp 0 : ℝ) : EReal) = (r k : EReal) := h
    rw [Real.exp_zero] at this
    exact (EReal.coe_eq_coe_iff.mp this).symm
  have hpos : 0 < ∑ i, r i := Finset.sum_pos' (fun i _ => hr0 i) ⟨k, Finset.mem_univ _, by rw [h1]; exact one_pos⟩
  refine ⟨Real.log (∑ i, r i), ?_⟩
  rw [zero_add, Finset.sum_congr rfl (fun i _ => hr i), coe_sum, log_real hpos]

/-- The reference's perturbed entry is the kernel's plus a real number. -/
theorem shifted (a : EReal) (b : BitVec 32) (M L : ℝ) (ha : a ≤ M) :
    gumbelOf b + ((a - M) - L) = (a + gumbelOf b) + ((-M - L : ℝ) : EReal) := by
  obtain ⟨g, hg⟩ := gumbelOf_real b
  rw [hg]
  induction a with
  | bot => simp
  | top => exact absurd ha (not_le.mpr (EReal.coe_lt_top M))
  | coe r =>
    rw [← EReal.coe_sub, ← EReal.coe_sub, ← EReal.coe_add, ← EReal.coe_add, ← EReal.coe_add]
    congr 1
    ring

/-- Where a row's maximum is a real number, so that some entry is above −∞, the first maximum of its perturbed entries
    is above −∞. -/
theorem score_ne_bot (x : Fin 1024 → Fin 100000 → EReal) (s : ℕ) (o : Fin 1024) (M : ℝ) (hM : rowMax (x o) = M)
    (k : Fin 100000) (hk : IsFirst (score x s o) k) : score x s o k ≠ ⊥ := by
  obtain ⟨i, hi⟩ := rowMax_mem (x o)
  obtain ⟨g, hg⟩ := gumbelOf_real (sampleWord ((s * 1024 + o.val) * 100000 + i.val))
  intro hb
  have h := hk.1 i
  rw [hb, score, hi, hM, hg, ← EReal.coe_add] at h
  exact absurd h (not_le.mpr (EReal.bot_lt_coe _))

end Cert.Draws

end
-- ==== Proof.KernelDraws.lean ====
/-
  One step of the kernel's loop read at a lane: the draw it adds is the one of the entry's position in the table, and the
  pair it carries is the running maximum of the lane with the step's entry met.
-/
module

public import proofs.«01_k».proof.Proof.KernelIdealSteps
public import proofs.«01_k».proof.Proof.Score

@[expose] public section

set_option maxHeartbeats 400000

noncomputable section

namespace Cert.KernelIdealProof

open Cert.KernelIdeal Cert.KernelIdeal.Gen Cert.Draws
open Idealize.ShloMosaic Idealize.ShloMosaic.TcCoe Idealize.ShloMosaic.Tactic
open Idealize.SL Idealize.SL.Sem

section Mix

variable {s : Shape} {β : Type}

theorem evenV_eq (k k' : BitVec 32) (x0 x1 : IVec s 32) (K : IVec s 32 → IVec s 32 → β) :
    evenV k k' x0 x1 K = K (fun j => (even k k' (x0 j) (x1 j)).1) (fun j => (even k k' (x0 j) (x1 j)).2) := rfl

theorem evenV_next (k k' : BitVec 32) (p : s.Idx → BitVec 32 × BitVec 32) (K : IVec s 32 → IVec s 32 → β) :
    evenV k k' (addi (fun j => (p j).1) (fun j => (p j).2)) (fun j => (p j).2) K
      = K (fun j => (next (even k k') (p j)).1) (fun j => (next (even k k') (p j)).2) := rfl

theorem oddV_next (k k' : BitVec 32) (p : s.Idx → BitVec 32 × BitVec 32) (K : IVec s 32 → IVec s 32 → β) :
    oddV k k' (addi (fun j => (p j).1) (fun j => (p j).2)) (fun j => (p j).2) K
      = K (fun j => (next (odd k k') (p j)).1) (fun j => (next (odd k k') (p j)).2) := rfl

/-- The hash of every lane is the hash at that lane. -/
theorem mixV_apply (k0 k1 k2 : BitVec 32) (x0 x1 : IVec s 32) (j : s.Idx) : mixV k0 k1 k2 x0 x1 j = mix k0 k1 k2 (x0 j) (x1 j) := by
  unfold mixV
  rw [evenV_eq]
  rw [oddV_next (p := fun j => even k1 (Scalar.addi k2 1#32) (x0 j) (x1 j))]
  rw [evenV_next (p := fun j => next (odd k2 (Scalar.addi k0 2#32)) (even k1 (Scalar.addi k2 1#32) (x0 j) (x1 j)))]
  rw [oddV_next (p := fun j => next (even k0 (Scalar.addi k1 3#32)) (next (odd k2 (Scalar.addi k0 2#32))
    (even k1 (Scalar.addi k2 1#32) (x0 j) (x1 j))))]
  rw [evenV_next (p := fun j => next (odd k1 (Scalar.addi k2 4#32)) (next (even k0 (Scalar.addi k1 3#32))
    (next (odd k2 (Scalar.addi k0 2#32)) (even k1 (Scalar.addi k2 1#32) (x0 j) (x1 j)))))]
  rfl

theorem unitV_apply (b : IVec s 32) (j : s.Idx) : unitV (F := Ideal) b j = unitOf (b j) := by
  have e : unitV (F := Ideal) b j = FloatOps.subf (FloatOps.ofBits .f32 (onePlus (b j))) (FloatOps.ofBits (F := Ideal) .f32 0x3F800000#32) := rfl
  rw [e, Ideal.subf_def, Ideal.ofBits_def, Ideal.ofBits_def]
  rfl

theorem gumbelV_apply (b : IVec s 32) (j : s.Idx) : gumbelV (F := Ideal) b j = gumbelOf (b j) := by
  have e : gumbelV (F := Ideal) b j = FloatOps.subf (FloatOps.ofBits .f32 0x00000000#32) (FloatOps.log (FloatOps.subf
      (FloatOps.ofBits .f32 0x00000000#32) (FloatOps.log (FloatOps.addf (unitV b j) (FloatOps.ofBits .f32 0x00800000#32))))) := rfl
  rw [e, unitV_apply]
  simp only [Ideal.subf_def, Ideal.ofBits_def, Ideal.log_def, Ideal.addf_def, ofBits_zero]
  rfl

end Mix

/-- The row of the table a block's row is. -/
abbrev rowOf (i : grid0.Coords) (r : ℕ) : ℕ := r + (i 0).val * 8

/-- The position in the table of a lane of a block's first 512 columns. -/
theorem pay_pos (i : grid0.Coords) (j : S8x512.Idx) :
    k0_pay2763 i j = BitVec.ofNat 32 (rowOf i (j 0).val * 100000 + (j 1).val) := by
  have e : k0_pay2763 i j = (BitVec.ofNat 32 (0 * 8 + (j 0).val) + BitVec.ofNat 32 (i 0).val * BitVec.ofNat 32 8) * BitVec.ofNat 32 100000
      + BitVec.ofNat 32 (0 * 512 + (j 1).val) := rfl
  rw [e, ← BitVec.ofNat_mul, ← BitVec.ofNat_add, ← BitVec.ofNat_mul, ← BitVec.ofNat_add, Nat.zero_mul, Nat.zero_add, Nat.zero_add]

theorem pay_second (i : grid0.Coords) (j : S8x512.Idx) : k0_pay2764 i j = k0_pay2763 i j + kB := rfl

theorem pay_first (i : grid0.Coords) (j : S8x512.Idx) : k0_pay2765 i j = k0_pay2763 i j + (kA + kB) := rfl

theorem shift_second (b k n : BitVec 32) : b + k + n = b + n + k := by
  rw [BitVec.add_assoc, BitVec.add_comm k, BitVec.add_assoc]

theorem shift_first (b l k n : BitVec 32) : b + (l + k) + n = l + (b + n + k) := by
  rw [BitVec.add_comm b (l + k), BitVec.add_assoc, BitVec.add_assoc, BitVec.add_comm k]

theorem word_of (k0 k1 k2 j : BitVec 32) : mix k0 k1 k2 (k0 + (j + k1)) (j + k1) = word k0 k1 k2 j := rfl

/-- A step's perturbed entry at a lane. -/
theorem drawV_apply (i : grid0.Coords) (x : FVec Ideal S8x512 .f32) (n : ℕ) (j : S8x512.Idx) :
    drawV kC i x (BitVec.ofNat 32 n) j = x j + gumbelOf (sampleWord (rowOf i (j 0).val * 100000 + (j 1).val + n)) := by
  have e : drawV kC i x (BitVec.ofNat 32 n) j = FloatOps.addf (x j) (gumbelV (F := Ideal) (mixV kA kB kC
      (addi (k0_pay2765 i) (broadcast S8x512 (BitVec.ofNat 32 n))) (addi (k0_pay2764 i) (broadcast S8x512 (BitVec.ofNat 32 n)))) j) := rfl
  have e1 : addi (k0_pay2765 i) (broadcast S8x512 (BitVec.ofNat 32 n)) j = k0_pay2765 i j + BitVec.ofNat 32 n := rfl
  have e2 : addi (k0_pay2764 i) (broadcast S8x512 (BitVec.ofNat 32 n)) j = k0_pay2764 i j + BitVec.ofNat 32 n := rfl
  rw [e, gumbelV_apply, mixV_apply, Ideal.addf_def, e1, e2, pay_first, pay_second, pay_pos, shift_first, shift_second _ kB,
    ← BitVec.ofNat_add _ n, word_of]

/-- The entries of the table's rows in a block, whatever stands past the last column. -/
def Holds (x : Fin 1024 → Fin 100000 → EReal) (i : grid0.Coords) (X : S8x100352.Idx → EReal) : Prop :=
  ∀ (y : S8x100352.Idx) (o : Fin 1024) (k : Fin 100000), o.val = rowOf i (y 0).val → k.val = (y 1).val → X y = x o k

theorem rowOf_lt (i : grid0.Coords) (r : ℕ) (hr : r < 8) : rowOf i r < 1024 := by
  have h : (i 0).val < 128 := (i 0).isLt
  unfold rowOf
  omega

/-- The table's row of a lane. -/
abbrev laneRow (i : grid0.Coords) (j : S8x512.Idx) : Fin 1024 := ⟨rowOf i (j 0).val, rowOf_lt i _ (j 0).isLt⟩

/-- The pairs carried before step `n`: in every lane, the running maxima of the two samples' scores over the first `n` steps. -/
def Inv (x : Fin 1024 → Fin 100000 → EReal) (i : grid0.Coords) (n : ℕ) (a : Carry Ideal) : Prop :=
  ∀ j : S8x512.Idx, (a.1 j, a.2.1 j) = run (lane (score x 0 (laneRow i j)) (j 1).val) n
    ∧ (a.2.2.1 j, a.2.2.2 j) = run (lane (score x 1 (laneRow i j)) (j 1).val) n

theorem initV_inv (x : Fin 1024 → Fin 100000 → EReal) (i : grid0.Coords) : Inv x i 0 (initV (F := Ideal)) := by
  intro j
  have e : (k0_pay2766 (F := Ideal) j : EReal) = ⊥ := ofBits_bot
  have e' : (k0_pay2768 (F := Ideal) j : EReal) = ⊥ := ofBits_bot
  exact ⟨Prod.ext e rfl, Prod.ext e' rfl⟩

/-- A pair with a step's value entered, at a lane. -/
theorem enterV_apply (v av : FVec Ideal S8x512 .f32) (t : BitVec 32) (ai : IVec S8x512 32) (w : ℕ → EReal) (n : ℕ) (j : S8x512.Idx)
    (ht : t = BitVec.ofNat 32 n) (hv : v j = w n) (ha : (av j, ai j) = run w n) :
    (select (cmpf .ogt v av) v av j, select (cmpf .ogt v av) (broadcast S8x512 t) ai j) = run w (n + 1) := by
  have e1 : select (cmpf .ogt v av) v av j = Scalar.select (FloatOps.cmpf .ogt (v j) (av j)) (v j) (av j) := rfl
  have e2 : select (cmpf .ogt v av) (broadcast S8x512 t) ai j = Scalar.select (FloatOps.cmpf .ogt (v j) (av j)) t (ai j) := rfl
  have ha1 : av j = (run w n).1 := congrArg Prod.fst ha
  have ha2 : ai j = (run w n).2 := congrArg Prod.snd ha
  rw [e1, e2, Ideal.cmpf_def, hv, ha1, ha2, ht]
  rfl

theorem pos_second (p n : ℕ) : (1024 + p) * 100000 + n = p * 100000 + n + 102400000 := by omega

/-- The second sample's positions are the first's moved on by the table's size. -/
theorem second_off (n : ℕ) : Scalar.addi (BitVec.ofNat 32 n) 102400000#32 = BitVec.ofNat 32 (n + 102400000) :=
  (BitVec.ofNat_add n 102400000).symm

/-- The score a step enters at a lane, for the first sample and the second. -/
theorem draw_first (x : Fin 1024 → Fin 100000 → EReal) (i : grid0.Coords) (l : FVec Ideal S8x512 .f32) (n : ℕ) (j : S8x512.Idx)
    (h : 512 * n + (j 1).val < 100000) (hl : l j = x (laneRow i j) ⟨512 * n + (j 1).val, h⟩) :
    drawV kC i l (BitVec.ofNat 32 (512 * n)) j = lane (score x 0 (laneRow i j)) (j 1).val n := by
  rw [drawV_apply, hl, lane, dif_pos h, score]
  show _ + gumbelOf (sampleWord _) = _ + gumbelOf (sampleWord ((0 * 1024 + rowOf i (j 0).val) * 100000 + (512 * n + (j 1).val)))
  have e : rowOf i (j 0).val * 100000 + (j 1).val + 512 * n = (0 * 1024 + rowOf i (j 0).val) * 100000 + (512 * n + (j 1).val) := by
    generalize rowOf i (j 0).val = p
    omega
  rw [e]

theorem draw_second (x : Fin 1024 → Fin 100000 → EReal) (i : grid0.Coords) (l : FVec Ideal S8x512 .f32) (n : ℕ) (j : S8x512.Idx)
    (h : 512 * n + (j 1).val < 100000) (hl : l j = x (laneRow i j) ⟨512 * n + (j 1).val, h⟩) :
    drawV kC i l (Scalar.addi (BitVec.ofNat 32 (512 * n)) 102400000#32) j = lane (score x 1 (laneRow i j)) (j 1).val n := by
  rw [second_off, drawV_apply, hl, lane, dif_pos h, score]
  show _ + gumbelOf (sampleWord _) = _ + gumbelOf (sampleWord ((1 * 1024 + rowOf i (j 0).val) * 100000 + (512 * n + (j 1).val)))
  have e : rowOf i (j 0).val * 100000 + (j 1).val + (512 * n + 102400000)
      = (1 * 1024 + rowOf i (j 0).val) * 100000 + (512 * n + (j 1).val) := by
    generalize rowOf i (j 0).val = p
    omega
  rw [e]

/-- A step whose columns all are the table's. -/
theorem stepV_inv (x : Fin 1024 → Fin 100000 → EReal) (i : grid0.Coords) (l : FVec Ideal S8x512 .f32) (t off : BitVec 32) (n : ℕ)
    (hn : n < 195) (ht : t = BitVec.ofNat 32 n) (ho : off = BitVec.ofNat 32 (512 * n))
    (hl : ∀ (j : S8x512.Idx) (k : Fin 100000), k.val = 512 * n + (j 1).val → l j = x (laneRow i j) k)
    (a : Carry Ideal) (ha : Inv x i n a) : Inv x i (n + 1) (stepV kC i l t off a) := by
  intro j
  have hq : (j 1).val < 512 := (j 1).isLt
  have h : 512 * n + (j 1).val < 100000 := by omega
  subst ho
  exact ⟨enterV_apply _ _ _ _ _ n j ht (draw_first x i l n j h (hl j _ rfl)) (ha j).1,
    enterV_apply _ _ _ _ _ n j ht (draw_second x i l n j h (hl j _ rfl)) (ha j).2⟩

/-- The steps of a trip, in order. -/
theorem foldBelow_inv (x : Fin 1024 → Fin 100000 → EReal) (i : grid0.Coords) (n₀ : ℕ) (n : ℕ) (f : ∀ k, k < n → Carry Ideal → Carry Ideal)
    (hf : ∀ k (hk : k < n) a, Inv x i (n₀ + k) a → Inv x i (n₀ + k + 1) (f k hk a)) (a : Carry Ideal) (ha : Inv x i n₀ a) :
    Inv x i (n₀ + n) (foldBelow n f a) := by
  induction n with
  | zero => exact ha
  | succ n ih => exact hf n _ _ (ih _ fun k hk a h => hf k _ a h)

/-- The last step's mask at a lane. -/
theorem maskV_apply (v : FVec Ideal S8x512 .f32) (j : S8x512.Idx) :
    maskV v j = if 512 * 195 + (j 1).val < 100000 then v j else ⊥ := by
  have hq : (j 1).val < 512 := (j 1).isLt
  have e : maskV v j = Scalar.select (IntOp.cmpi .slt (BitVec.ofNat 32 (0 * 512 + (j 1).val) + BitVec.ofNat 32 99840) 100000#32) (v j)
      (FloatOps.ofBits (F := Ideal) .f32 0xFF800000#32) := rfl
  rw [e, Ideal.ofBits_def, ofBits_bot, Nat.zero_mul, Nat.zero_add, ← BitVec.ofNat_add]
  have hs : (BitVec.ofNat 32 ((j 1).val + 99840)).slt 100000#32 = decide ((j 1).val + 99840 < 100000) := by
    rw [BitVec.slt_eq_decide, toInt_small (by omega), toInt_small (by omega)]
    exact decide_eq_decide.mpr (by omega)
  by_cases hlt : (j 1).val + 99840 < 100000
  · rw [if_pos (by omega)]
    simp [Scalar.select, IntOp.cmpi, hs, hlt]
  · rw [if_neg (by omega)]
    simp [Scalar.select, IntOp.cmpi, hs, hlt]

/-- The last step. -/
theorem lastV_apply (x : Fin 1024 → Fin 100000 → EReal) (i : grid0.Coords) (l : FVec Ideal S8x512 .f32)
    (hl : ∀ (j : S8x512.Idx) (k : Fin 100000), k.val = 512 * 195 + (j 1).val → l j = x (laneRow i j) k)
    (j : S8x512.Idx) :
    maskV (drawV kC i l (BitVec.ofNat 32 (512 * 195))) j = lane (score x 0 (laneRow i j)) (j 1).val 195
    ∧ maskV (drawV kC i l (Scalar.addi (BitVec.ofNat 32 (512 * 195)) 102400000#32)) j = lane (score x 1 (laneRow i j)) (j 1).val 195 := by
  rw [maskV_apply, maskV_apply]
  by_cases h : 512 * 195 + (j 1).val < 100000
  · rw [if_pos h, if_pos h]
    exact ⟨draw_first x i l 195 j h (hl j _ rfl), draw_second x i l 195 j h (hl j _ rfl)⟩
  · rw [if_neg h, if_neg h, lane, lane, dif_neg h, dif_neg h]
    exact ⟨rfl, rfl⟩

end Cert.KernelIdealProof

end
-- ==== Proof.KernelCarry.lean ====
/-
  The kernel's loop: after its 196 steps every lane carries the running maxima of its column's scores.
-/
module

public import proofs.«01_k».proof.Proof.KernelDraws

@[expose] public section

set_option maxHeartbeats 400000

noncomputable section

namespace Cert.KernelIdealProof

open Cert.KernelIdeal Cert.KernelIdeal.Gen Cert.Draws
open Idealize.ShloMosaic Idealize.ShloMosaic.TcCoe Idealize.ShloMosaic.Tactic
open Idealize.SL Idealize.SL.Sem

variable (c : Dev nD) (i : grid0.Coords)
    (a1 : Memref sig .tc .vmem S8x100352 .f32) (h1 : a1.IsWhole) (a2 : Memref sig .tc .vmem S8x1 .f32) (h2 : a2.IsWhole)
    (a3 : Memref sig .tc .vmem S8x2 .i32) (h3 : a3.IsWhole) (a4 : Memref sig .tc .vmem S8x1 .f32) (h4 : a4.IsWhole)
    (X : S8x100352.Idx → EReal) (x : Fin 1024 → Fin 100000 → EReal)

theorem trips_six : k0_t1_loop.trips = 6 := by decide

/-- The step number of a loop's step. -/
theorem step_number (t k : ℕ) : Scalar.addi (Scalar.muli 32#32 (Scf.iv 0#32 1#32 t)) (BitVec.ofNat 32 k) = BitVec.ofNat 32 (32 * t + k) := by
  have e : Scalar.addi (Scalar.muli 32#32 (Scf.iv 0#32 1#32 t)) (BitVec.ofNat 32 k)
      = BitVec.ofNat 32 32 * (BitVec.ofNat 32 0 + BitVec.ofNat 32 t * BitVec.ofNat 32 1) + BitVec.ofNat 32 k := rfl
  rw [e, ← BitVec.ofNat_mul, ← BitVec.ofNat_add, ← BitVec.ofNat_mul, ← BitVec.ofNat_add, Nat.mul_one, Nat.zero_add]

theorem step_off (n : ℕ) : Scalar.muli (BitVec.ofNat 32 n) 512#32 = BitVec.ofNat 32 (512 * n) := by
  rw [Nat.mul_comm]
  exact (BitVec.ofNat_mul n 512).symm

theorem off_loop (t : Fin k0_t1_loop.trips) (k : Fin 32) : k0_off1 t (BitVec.ofNat 32 k.val) = ![0, 512 * (32 * t.val + k.val)] := by
  have ht : t.val < 6 := lt_of_lt_of_eq t.isLt trips_six
  have e : k0_off1 t (BitVec.ofNat 32 k.val) = ![0, (Scalar.muli (Scalar.addi (Scalar.muli 32#32 (Scf.iv 0#32 1#32 t.val))
      (BitVec.ofNat 32 k.val)) 512#32).toNat] := rfl
  rw [e, step_number, step_off, BitVec.toNat_ofNat, Nat.mod_eq_of_lt (by omega)]

theorem off_post (k : Fin 4) : k0_off2 (BitVec.ofNat 32 (192 + k.val)) = ![0, 512 * (192 + k.val)] := by
  have e : k0_off2 (BitVec.ofNat 32 (192 + k.val)) = ![0, (Scalar.muli (BitVec.ofNat 32 (192 + k.val)) 512#32).toNat] := rfl
  rw [e, step_off, BitVec.toNat_ofNat, Nat.mod_eq_of_lt (by omega)]

/-- A load of 512 columns at a lane. -/
theorem load_apply (off : Fin 2 → ℕ) (inb : ∀ a, off a + S8x512.size a ≤ S8x100352.size a) (n : ℕ) (ho : off = ![0, 512 * n])
    (hX : Holds x i X) (j : S8x512.Idx) (k : Fin 100000) (hk : k.val = 512 * n + (j 1).val) :
    a1.view.readAt (Elt Ideal) (Rect.unit (s := S8x100352) off S8x512.size inb).toLoadRect (a1.view.rep (Val := Elt Ideal) X) j = x (laneRow i j) k := by
  rw [View.readAt_rep]
  subst ho
  apply hX
  · show rowOf i (j 0).val = rowOf i (0 + 1 * (j 0).val)
    rw [Nat.one_mul, Nat.zero_add]
  · show k.val = 512 * n + 1 * (j 1).val
    rw [Nat.one_mul, hk]

theorem trip_inv (hX : Holds x i X) (t : Fin k0_t1_loop.trips) (a : Carry Ideal) (ha : Inv x i (32 * t.val) a) :
    Inv x i (32 * (t.val + 1)) (tripR_k0_t1 (F := Ideal) Variants.none c none i a1 h1 a2 h2 a3 h3 a4 h4 kC (a1.view.rep (Val := Elt Ideal) X) t a) := by
  have ht : t.val < 6 := lt_of_lt_of_eq t.isLt trips_six
  rw [trip_steps, Nat.mul_succ]
  refine foldBelow_inv x i _ 32 _ (fun k hk b hb => ?_) a ha
  unfold tripStep
  exact stepV_inv x i _ _ _ (32 * t.val + k) (by omega) (step_number _ _) (by rw [step_number, step_off])
    (fun j q hq => load_apply i a1 X x _ _ (32 * t.val + k) (off_loop t ⟨k, hk⟩) hX j q hq) b hb

/-- The pairs carried through the loop. -/
theorem loop_inv (hX : Holds x i X) (n : ℕ) (hn : n ≤ 6) :
    Inv x i (32 * n) (st_k0_t1 (F := Ideal) Variants.none c none i a1 h1 a2 h2 a3 h3 a4 h4 kC (a1.view.rep (Val := Elt Ideal) X) initV n) := by
  induction n with
  | zero => rw [st_k0_t1_zero]; exact initV_inv x i
  | succ n ih =>
    have h := st_k0_t1_succ (F := Ideal) Variants.none c none i a1 h1 a2 h2 a3 h3 a4 h4 kC (a1.view.rep (Val := Elt Ideal) X) initV
      ⟨n, lt_of_lt_of_eq (by omega) trips_six.symm⟩
    rw [h]
    exact trip_inv c i a1 h1 a2 h2 a3 h3 a4 h4 X x hX ⟨n, _⟩ _ (ih (by omega))

theorem post_inv (hX : Holds x i X) (k : Fin 4) (hk : k.val < 3) (a : Carry Ideal) (ha : Inv x i (192 + k.val) a) :
    Inv x i (192 + k.val + 1) (postStep i a1 (a1.view.rep (Val := Elt Ideal) X) k a) := by
  unfold postStep
  exact stepV_inv x i _ _ _ (192 + k.val) (by omega) rfl (step_off _)
    (fun j q hq => load_apply i a1 X x _ _ (192 + k.val) (off_post k) hX j q hq) a ha

/-- A step's values of the two samples entered. -/
theorem enter_inv (n : ℕ) (v w : FVec Ideal S8x512 .f32) (t : BitVec 32) (ht : t = BitVec.ofNat 32 n)
    (hv : ∀ j, v j = lane (score x 0 (laneRow i j)) (j 1).val n) (hw : ∀ j, w j = lane (score x 1 (laneRow i j)) (j 1).val n)
    (a : Carry Ideal) (ha : Inv x i n a) :
    Inv x i (n + 1) (enterV v t a.1 a.2.1 fun p q => enterV w t a.2.2.1 a.2.2.2 fun r u => (p, q, r, u)) :=
  fun j => ⟨enterV_apply _ _ _ _ _ n j ht (hv j) (ha j).1, enterV_apply _ _ _ _ _ n j ht (hw j) (ha j).2⟩

theorem last_inv (hX : Holds x i X) (a : Carry Ideal) (ha : Inv x i 195 a) :
    Inv x i (195 + 1) (lastStep i a1 (a1.view.rep (Val := Elt Ideal) X) a) := by
  have h := lastV_apply x i (loadP a1 (a1.view.rep (Val := Elt Ideal) X) 3)
    (fun j q hq => load_apply i a1 X x _ _ 195 (off_post 3) hX j q hq)
  have e : Scalar.muli 195#32 512#32 = BitVec.ofNat 32 (512 * 195) := step_off 195
  unfold lastStep
  rw [e]
  exact enter_inv i x 195 _ _ _ rfl (fun j => (h j).1) (fun j => (h j).2) a ha

/-- The pairs carried after the last step. -/
theorem carryEnd_inv (hX : Holds x i X) : Inv x i 196 (carryEnd (F := Ideal) c i a1 h1 a2 h2 a3 h3 a4 h4 (a1.view.rep (Val := Elt Ideal) X)) := by
  unfold carryEnd
  have e : Scf.trips k0_t1_loop.lb k0_t1_loop.ub k0_t1_loop.st = 6 := by decide
  rw [e]
  have h0 := loop_inv c i a1 h1 a2 h2 a3 h3 a4 h4 X x hX 6 le_rfl
  have p0 := post_inv i a1 X x hX 0 (by decide) _ h0
  have p1 := post_inv i a1 X x hX 1 (by decide) _ p0
  have p2 := post_inv i a1 X x hX 2 (by decide) _ p1
  exact last_inv i a1 X x hX _ p2

end Cert.KernelIdealProof

end
-- ==== Proof.KernelPick.lean ====
/-
  What the kernel's body stores, read at an index: of the samples, the first position at which a row's scores attain their
  maximum; of the comparisons, the one of the row's uniform draw with its probability.
-/
module

public import proofs.«01_k».proof.Proof.KernelCarry

@[expose] public section

set_option maxHeartbeats 400000

noncomputable section

namespace Cert.Draws

/-- The first position at which the scores of a row attain their maximum. -/
def firstAt (x : Fin 1024 → Fin 100000 → EReal) (s : ℕ) (o : Fin 1024) : Fin 100000 := Classical.choose (exists_isFirst (score x s o))

theorem firstAt_spec (x : Fin 1024 → Fin 100000 → EReal) (s : ℕ) (o : Fin 1024) : IsFirst (score x s o) (firstAt x s o) :=
  Classical.choose_spec (exists_isFirst (score x s o))

end Cert.Draws

namespace Cert.KernelIdealProof

open Cert.KernelIdeal Cert.KernelIdeal.Gen Cert.Draws
open Idealize.ShloMosaic Idealize.ShloMosaic.TcCoe Idealize.ShloMosaic.Tactic
open Idealize.SL Idealize.SL.Sem

abbrev at8 (r : Fin 8) : S8.Idx := fun a => match a with
  | ⟨0, _⟩ => r

abbrev at8x1 (r : Fin 8) : S8x1.Idx := fun a => match a with
  | ⟨0, _⟩ => r
  | ⟨1, _⟩ => (⟨0, Nat.one_pos⟩ : Fin 1)

abbrev at8x512 (r : Fin 8) (q : Fin 512) : S8x512.Idx := fun a => match a with
  | ⟨0, _⟩ => r
  | ⟨1, _⟩ => q

theorem eq_at8x1 (y : S8x1.Idx) : y = at8x1 (y 0) :=
  funext fun a => Fin.ext (by
    match a with
    | ⟨0, _⟩ => rfl
    | ⟨1, _⟩ => have h : (y 1).val < 1 := (y 1).isLt
                show (y 1).val = 0
                omega)

theorem lift_lane (r : Fin 8) (q : Fin 512) : reduces_S8x512_S8.lift (at8 r) q = at8x512 r q :=
  funext fun a => Fin.ext (by match a with | ⟨0, _⟩ => rfl | ⟨1, _⟩ => rfl)

/-- A vector of eight as a column. -/
theorem column_apply {α : Type} (v : S8.Idx → α) (r : Fin 8) : shapeCast S8x1 v shapeCasts_S8_S8x1 (at8x1 r) = v (at8 r) := by
  apply shapeCast_apply
  rw [Shape.rowMajor_val_one, Shape.rowMajor_val_two]
  show r.val = r.val * 1 + 0
  omega

theorem spread_apply {α : Type} (v : S8x1.Idx → α) (r : Fin 8) (q : Fin 512) :
    broadcastTo S8x512 v broadcasts_S8x1_S8x512 (at8x512 r q) = v (at8x1 r) := by
  apply broadcastTo_apply
  intro a
  match a with
  | ⟨0, _⟩ => rfl
  | ⟨1, _⟩ => rfl

/-- The maximum over a row's lanes. -/
theorem laneMax (av : FVec Ideal S8x512 .f32) (r : Fin 8) (v : EReal)
    (h : (Finset.univ : Finset (Fin 512)).fold max ⊥ (fun q => av (at8x512 r q)) = v)
    (hφ : FKind.Formats .f32) (hacc : 0xFF800000#32 = FKind.maximumf.neutral .f32 hφ) :
    multiReduction .maximumf [1] S8 av 0xFF800000#32 reduces_S8x512_S8 hφ hacc (at8 r) = v := by
  refine (Ideal.multiReduction_maximumf_single av _ reduces_S8x512_S8 hφ hacc (at8 r)).trans ?_
  have e : av ∘ reduces_S8x512_S8.lift (at8 r) = fun q => av (at8x512 r q) := funext fun q => congrArg av (lift_lane r q)
  rw [e, Ideal.ofBits_def, ofBits_bot]
  exact h

/-- The minimum over a row's lanes. -/
theorem laneMin (b : IVec S8x512 32) (r : Fin 8) (w : BitVec 32)
    (h : (Finset.univ : Finset (Fin 512)).fold IntOp.minsi 2147483647#32 (fun q => b (at8x512 r q)) = w)
    (hacc : 2147483647#32 = IKind.minsi.neutral) :
    multiReductionI .minsi [1] S8 b 2147483647#32 reduces_S8x512_S8 hacc (at8 r) = w := by
  refine (multiReductionI_eq_fold .minsi b _ reduces_S8x512_S8 hacc (at8 r)).trans ?_
  refine (reduces_S8x512_S8.fold_filter_drop_single IntOp.minsi _ b (at8 r)).trans ?_
  have e : b ∘ reduces_S8x512_S8.lift (at8 r) = fun q => b (at8x512 r q) := funext fun q => congrArg b (lift_lane r q)
  rw [e]
  exact h

/-- What a lane enters into the minimum, `v` being the row's maximum. -/
theorem picked_lane (av : FVec Ideal S8x512 .f32) (ai : IVec S8x512 32) (m : FVec Ideal S8x512 .f32) (r : Fin 8) (q : Fin 512)
    (v : EReal) (hm : m (at8x512 r q) = v) :
    select (cmpf .oeq av m) (addi (muli ai (broadcast S8x512 512#32)) colV) (broadcast S8x512 2147483647#32) (at8x512 r q)
      = if av (at8x512 r q) = v then ai (at8x512 r q) * 512#32 + BitVec.ofNat 32 q.val else 2147483647#32 := by
  have e : select (cmpf .oeq av m) (addi (muli ai (broadcast S8x512 512#32)) colV) (broadcast S8x512 2147483647#32) (at8x512 r q)
      = Scalar.select (Ideal.cmp .oeq (av (at8x512 r q)) (m (at8x512 r q)))
          (ai (at8x512 r q) * 512#32 + BitVec.ofNat 32 (0 * 512 + q.val)) 2147483647#32 := rfl
  rw [e, hm, select_oeq, Nat.zero_mul, Nat.zero_add]

/-- The column picked in a row from the lanes' running maxima. -/
theorem pickV_apply (av : FVec Ideal S8x512 .f32) (ai : IVec S8x512 32) (r : Fin 8) (v : Fin 100000 → EReal) (k : Fin 100000)
    (hk : IsFirst v k) (hbot : v k ≠ ⊥) (h : ∀ q : Fin 512, (av (at8x512 r q), ai (at8x512 r q)) = run (lane v q.val) 196) :
    pickV av ai (at8x1 r) = BitVec.ofNat 32 k.val := by
  have ha : ∀ q : Fin 512, av (at8x512 r q) = (run (lane v q.val) 196).1 := fun q => congrArg Prod.fst (h q)
  have hi : ∀ q : Fin 512, ai (at8x512 r q) = (run (lane v q.val) 196).2 := fun q => congrArg Prod.snd (h q)
  have hf : (fun q => av (at8x512 r q)) = fun q : Fin 512 => (run (lane v q.val) 196).1 := funext ha
  have hm := laneMax av r (v k) (by rw [hf]; exact lanes_max v k hk)
  unfold pickV
  rw [column_apply]
  refine laneMin _ r _ (lanes_first v k hk hbot _ fun q => ?_) _
  refine (picked_lane av ai _ r q _ ((spread_apply _ r q).trans ((column_apply _ r).trans (hm _ _)))).trans ?_
  rw [ha, hi]

/-- Two columns side by side. -/
theorem beside_apply (u w : IVec S8x1 32) (j : S8x2.Idx) :
    concatenate S8x2 1 [⟨S8x1, u⟩, ⟨S8x1, w⟩] concatenates_S8x1_S8x1_S8x2_d1 j
      = if (j 1).val = 0 then u (at8x1 (j 0)) else w (at8x1 (j 0)) := by
  have hj : (j 1).val < 2 := (j 1).isLt
  by_cases h : (j 1).val = 0
  · rw [if_pos h]
    exact concatenate_pair_apply_left 1 u w _ j rfl (at8x1 (j 0)) fun b => by
      match b with
      | ⟨0, _⟩ => rfl
      | ⟨1, _⟩ => exact h.symm
  · rw [if_neg h]
    exact concatenate_pair_apply_right 1 u w _ j rfl rfl (at8x1 (j 0)) (fun b hb => by
      match b with
      | ⟨0, _⟩ => rfl
      | ⟨1, _⟩ => exact absurd rfl hb) (by show 0 + 1 = (j 1).val; omega)

end Cert.KernelIdealProof

end
-- ==== Proof.KernelBlock.lean ====
/-
  What the kernel's body stores over a block, read at an index: of the samples, the first position at which a row's scores
  attain their maximum; of the comparisons, the one of the row's uniform draw with its probability.
-/
module

public import proofs.«01_k».proof.Proof.KernelPick
public import Idealize.ShloMosaic.Lib.VecWindow

@[expose] public section

set_option maxHeartbeats 400000

noncomputable section

namespace Cert.KernelIdealProof

open Cert.KernelIdeal Cert.KernelIdeal.Gen Cert.Draws
open Idealize.ShloMosaic Idealize.ShloMosaic.TcCoe Idealize.ShloMosaic.Tactic
open Idealize.SL Idealize.SL.Sem

section Body

variable (c : Dev nD) (i : grid0.Coords)
    (a1 : Memref sig .tc .vmem S8x100352 .f32) (h1 : a1.IsWhole) (a2 : Memref sig .tc .vmem S8x1 .f32) (h2 : a2.IsWhole)
    (a3 : Memref sig .tc .vmem S8x2 .i32) (h3 : a3.IsWhole) (a4 : Memref sig .tc .vmem S8x1 .f32) (h4 : a4.IsWhole)
    (X : S8x100352.Idx → EReal) (P : S8x1.Idx → EReal) (x : Fin 1024 → Fin 100000 → EReal)

/-- The samples of a block. -/
theorem samples_at (hX : Holds x i X) (hM : ∀ o, ∃ M : ℝ, rowMax (x o) = M) (j : S8x2.Idx) :
    (bodyRun (F := Ideal) c i a1 h1 a2 h2 a3 h3 a4 h4 (a1.view.rep (Val := Elt Ideal) X) (a2.view.rep (Val := Elt Ideal) P)).1.1 j
      = BitVec.ofNat 32 (firstAt x (j 1).val ⟨rowOf i (j 0).val, rowOf_lt i _ (j 0).isLt⟩).val := by
  have hj : (j 1).val < 2 := (j 1).isLt
  rw [body_samples, beside_apply]
  have hI := carryEnd_inv c i a1 h1 a2 h2 a3 h3 a4 h4 X x hX
  generalize carryEnd (F := Ideal) c i a1 h1 a2 h2 a3 h3 a4 h4 (a1.view.rep (Val := Elt Ideal) X) = a at hI
  obtain ⟨M, hM⟩ := hM ⟨rowOf i (j 0).val, rowOf_lt i _ (j 0).isLt⟩
  have hf := fun s => firstAt_spec x s ⟨rowOf i (j 0).val, rowOf_lt i _ (j 0).isLt⟩
  split
  · next h =>
    rw [h]
    exact pickV_apply _ _ (j 0) _ _ (hf 0) (score_ne_bot x 0 _ M hM _ (hf 0)) fun q => (hI (at8x512 (j 0) q)).1
  · next h =>
    rw [show (j 1).val = 1 by omega]
    exact pickV_apply _ _ (j 0) _ _ (hf 1) (score_ne_bot x 1 _ M hM _ (hf 1)) fun q => (hI (at8x512 (j 0) q)).2

theorem pos_first (b : BitVec 32) : b + (qA + qB) = qA + (b + qB) := by
  rw [BitVec.add_comm b, BitVec.add_assoc, BitVec.add_comm qB]

theorem rowV_apply (y : S8x1.Idx) : rowV i y = BitVec.ofNat 32 (rowOf i (y 0).val) := by
  have e : rowV i y = BitVec.ofNat 32 (0 * 8 + (y 0).val) + BitVec.ofNat 32 (i 0).val * BitVec.ofNat 32 8 := rfl
  rw [e, ← BitVec.ofNat_mul, ← BitVec.ofNat_add, Nat.zero_mul, Nat.zero_add]

/-- The hash of a row from its first round's sum and second word. -/
theorem rowHash_apply (v : IVec S8x1 32) (y : S8x1.Idx) (n : ℕ) (hv : v y = BitVec.ofNat 32 n) :
    mixV qA qB qC (addi v (broadcast S8x1 (Scalar.addi qA qB))) (addi v (broadcast S8x1 qB)) y = rowWord n := by
  have e1 : addi v (broadcast S8x1 (Scalar.addi qA qB)) y = v y + (qA + qB) := rfl
  have e2 : addi v (broadcast S8x1 qB) y = v y + qB := rfl
  rw [mixV_apply, e1, e2, pos_first, word_of, hv]

/-- A word's number of [0, 1) scaled by one and moved by zero, as the kernel writes its uniform draw. -/
theorem uniform_apply (b : IVec S8x1 32) (y : S8x1.Idx) :
    maximumf (addf (mulf (unitV (F := Ideal) b) (broadcast S8x1 (Scalar.ofBits .f32 0x3F800000#32))) (broadcast S8x1 (Scalar.ofBits .f32 0x00000000#32)))
      (broadcast S8x1 (Scalar.ofBits .f32 0x00000000#32)) y = unitOf (b y) := by
  have e : maximumf (addf (mulf (unitV (F := Ideal) b) (broadcast S8x1 (Scalar.ofBits .f32 0x3F800000#32))) (broadcast S8x1 (Scalar.ofBits .f32 0x00000000#32)))
      (broadcast S8x1 (Scalar.ofBits .f32 0x00000000#32)) y
      = FloatOps.maximumf (FloatOps.addf (FloatOps.mulf (unitV b y) (FloatOps.ofBits (F := Ideal) .f32 0x3F800000#32))
        (FloatOps.ofBits .f32 0x00000000#32)) (FloatOps.ofBits .f32 0x00000000#32) := rfl
  rw [e, unitV_apply, Ideal.maximumf_def, Ideal.addf_def, Ideal.mulf_def, Ideal.ofBits_def, Ideal.ofBits_def,
    ofBits_one, ofBits_zero, EReal.coe_one, mul_one, add_zero]
  obtain ⟨u, hu, h0, _⟩ := unitOf_real (b y)
  rw [hu]
  exact max_eq_left (EReal.coe_le_coe_iff.mpr h0)

/-- The uniform draws of a block's rows. -/
theorem rowDraw_apply (y : S8x1.Idx) : rowDraw (F := Ideal) i y = unitOf (rowWord (rowOf i (y 0).val)) := by
  unfold rowDraw
  exact (uniform_apply _ y).trans (congrArg unitOf (rowHash_apply _ y _ (rowV_apply i y)))

/-- A comparison's bit as a number. -/
theorem bit_number (u p : EReal) : (((((Ideal.cmp .olt u p).setWidth 32).toInt : ℝ)) : EReal) = if u < p then (1 : EReal) else 0 := by
  by_cases h : u < p
  · rw [if_pos h]
    simp [Ideal.cmp, h]
  · rw [if_neg h]
    simp [Ideal.cmp, h]

/-- A column of comparisons as numbers. -/
theorem number_apply (u w : FVec Ideal S8x1 .f32) (y : S8x1.Idx) (p q : EReal) (hp : u y = p) (hq : w y = q) :
    sitofp (F := Ideal) .f32 (extui 32 (cmpf .olt u w) natLt_1_32) y = if p < q then (1 : EReal) else 0 := by
  have e : sitofp (F := Ideal) .f32 (extui 32 (cmpf .olt u w) natLt_1_32) y
      = (((((Ideal.cmp .olt (u y) (w y)).setWidth 32).toInt : ℝ)) : EReal) := rfl
  rw [e, hp, hq, bit_number]

theorem loaded_apply (y : S8x1.Idx) : shapeCast S8x1 (a2.view.readAt (Elt Ideal) (Rect.unit (s := S8x1) ![0, 0] S8x1.size
    inb_S8x1_S8x1_0_0).toLoadRect (a2.view.rep (Val := Elt Ideal) P)) shapeCasts_S8x1_S8x1 y = P y := by
  have e : a2.view.readAt (Elt Ideal) (Rect.unit (s := S8x1) ![0, 0] S8x1.size inb_S8x1_S8x1_0_0).toLoadRect (a2.view.rep (Val := Elt Ideal) P) = P :=
    View.readAt_rep_full (Val := Elt Ideal) a2.view P inb_S8x1_S8x1_0_0
  have k := shapeCast_self (s := S8x1) P shapeCasts_S8x1_S8x1
  exact (congrArg (fun v : S8x1.Idx → EReal => shapeCast S8x1 v shapeCasts_S8x1_S8x1 y) e).trans (congrFun k y)

/-- The comparisons of a block. -/
theorem nots_at (y : S8x1.Idx) :
    (bodyRun (F := Ideal) c i a1 h1 a2 h2 a3 h3 a4 h4 (a1.view.rep (Val := Elt Ideal) X) (a2.view.rep (Val := Elt Ideal) P)).1.2 y
      = drawn (rowOf i (y 0).val) (P y) := by
  rw [body_nots, drawn]
  exact number_apply _ _ y _ _ (rowDraw_apply i y) (loaded_apply a2 P y)

end Body

end Cert.KernelIdealProof

end
-- ==== Proof.KernelRun.lean ====
/-
  The run of the program KernelIdeal with the values it leaves: when every row of the table has a finite maximum, the
  samples hold the first position of each row's greatest score, and the comparisons those of the rows' uniform draws.
-/
module

public import proofs.«01_k».proof.Proof.KernelBlock
public import Idealize.ShloMosaic.Lib.Pipeline.KitQuiescent
public import Idealize.ShloMosaic.Lib.Pipeline.ValueKit

@[expose] public section

set_option maxHeartbeats 400000

noncomputable section

namespace Cert.KernelIdealProof

open Cert.KernelIdeal Cert.KernelIdeal.Gen Cert.Draws

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable (m : (ℓ : Loc nD τ sig) → Buf (Elt Ideal) ℓ) (ρ : Dev nD → PrngReg)

/-- The table's index of a row and a column. -/
abbrev entry (o : Fin 1024) (k : Fin 100000) : S1024x100000.Idx := fun a => match a with
  | ⟨0, _⟩ => o
  | ⟨1, _⟩ => k

/-- The table as the region finds it. -/
def table (c : Dev nD) : Fin 1024 → Fin 100000 → EReal :=
  fun o k => (show S1024x100000.Idx → EReal from V m c (Pipeline.arrRef spec0 0)) (entry o k)

/-- The samples a point leaves in its block. -/
def sampleBlock (c : Dev nD) (i : grid0.Coords) : S8x2.Idx → BitVec 32 := fun j =>
  BitVec.ofNat 32 (firstAt (table m c) (j 1).val ⟨rowOf i (j 0).val, rowOf_lt i _ (j 0).isLt⟩).val

/-- The comparisons a point leaves in its block, from the block of probabilities. -/
def notBlock (i : grid0.Coords) (P : S8x1.Idx → EReal) : S8x1.Idx → EReal := fun y => drawn (rowOf i (y 0).val) (P y)

/-- Proof data that names what every point leaves. -/
def runDats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => sampleBlock m c (grid0.coords t)
    | ⟨3, _⟩ => notBlock (grid0.coords t) (iblk m c 1 t)
  Φ _ := Pipeline.ΦA cfg0.spec c
  q _ := fullShare
  owed _ := 0

theorem before_table (c : Dev nD) (t : Fin cfg0.N) (d) :
    (runDats m 0 c).before (0 : Fin 4) t d = win0_0.fill (grid0.coords t) d (iblk m c 0 t) := by
  unfold Dat.before; rw [if_pos (fetch0_0 t)]; rfl

theorem before_probability (c : Dev nD) (t : Fin cfg0.N) (d) : (runDats m 0 c).before (1 : Fin 4) t d = iblk m c 1 t :=
  before0_1_of m (runDats m 0 c) rfl (fun _ => rfl) t d

theorem index_table (t : Fin grid0.N) : win0_0.index t 0 = (grid0.coords t 0).val ∧ win0_0.index t 1 = 0 := by
  refine ⟨?_, rfl⟩
  have h : (grid0.coords t 0).val < 128 := (grid0.coords t 0).isLt
  show (BitVec.ofNat 32 (grid0.coords t 0).val).toNat = _
  rw [BitVec.toNat_ofNat, Nat.mod_eq_of_lt (by omega)]

theorem xsize_table : ∀ i : grid0.Coords, win0_0.xsize i 0 = 8 ∧ win0_0.xsize i 1 = 100000 := by decide +kernel

theorem first_block {n : ℕ} (h : n = 0) (s v : ℕ) : n * s + v = v := by rw [h, Nat.zero_mul, Nat.zero_add]

/-- The staged block of the table: its columns inside the table are the table's. -/
theorem holds_block (c : Dev nD) (t : Fin cfg0.N) (d : S8x100352.Idx → EReal) :
    Holds (table m c) (grid0.coords t) (win0_0.fill (grid0.coords t) d (iblk m c 0 t)) := by
  intro y o k ho hk
  have hx := xsize_table (grid0.coords t)
  have hmv : win0_0.moved (grid0.coords t) y = true := (win0_0.moved_iff _ _).mpr fun a => by
    match a with
    | ⟨0, _⟩ => exact lt_of_lt_of_eq (y 0).isLt hx.1.symm
    | ⟨1, _⟩ => exact lt_of_lt_of_eq (hk ▸ k.isLt) hx.2.symm
  unfold Window.fill
  rw [dif_pos hmv]
  unfold table
  have hi := index_table t
  refine congrArg (show S1024x100000.Idx → EReal from V m c (Pipeline.arrRef spec0 0)) (funext (Fin.forall_fin_two.mpr ⟨Fin.ext ?_, Fin.ext ?_⟩))
  · refine (Window.rect_emb_val win0_0 t (fun a => ⟨(y a).val, (win0_0.moved_iff _ _).mp hmv a⟩) (0 : Fin 2)).trans ?_
    show win0_0.index t 0 * 8 + (y 0).val = o.val
    rw [hi.1, ho, rowOf, Nat.add_comm]
  · exact (Window.rect_emb_val win0_0 t (fun a => ⟨(y a).val, (win0_0.moved_iff _ _).mp hmv a⟩) (1 : Fin 2)).trans
      ((first_block hi.2 _ _).trans hk.symm)

/-- The body at a point takes the blocks it finds to what the proof data name. -/
theorem run_obligation (c : Dev nD) (hM : ∀ o, ∃ M : ℝ, rowMax (table m c o) = M) :
    BodyObligationLoose (runDats m 0 c) (defs₀ (F := Ideal)) Variants.none () Set.univ := fun t => by
  rw [bigSep_W0, bigSep_W0]
  simp only
  rw [show (runDats m 0 c).Φ t.succ = (runDats m 0 c).Φ t.castSucc from rfl,
    show (runDats m 0 c).owesAt () t.succ = (runDats m 0 c).owesAt () t.castSucc from rfl]
  iintro ⟨HΦ, Ho, ⟨%d0, H0⟩, ⟨%d1, H1⟩, ⟨%d2, H2⟩, ⟨%d3, H3⟩⟩
  rw [before_table m c t d0, before_probability m c t d1]
  iapply (sound_body (F := Ideal) c Set.univ (grid0.coords t) (stage0_0 (cfg0.slots t 0)) (hstage0_0 (cfg0.slots t 0))
    (stage0_1 (cfg0.slots t 1)) (hstage0_1 (cfg0.slots t 1)) (stage0_2 (cfg0.slots t 2)) (hstage0_2 (cfg0.slots t 2))
    (stage0_3 (cfg0.slots t 3)) (hstage0_3 (cfg0.slots t 3)) (win0_0.fill (grid0.coords t) d0 (iblk m c 0 t)) (iblk m c 1 t) _ _ _)
  isplitl [H0]; · iexact H0
  isplitl [H1]; · iexact H1
  isplitl [H2]; · iexact H2
  isplitl [H3]; · iexact H3
  have e2 := funext fun j => samples_at c (grid0.coords t) (stage0_0 (cfg0.slots t 0)) (hstage0_0 (cfg0.slots t 0))
    (stage0_1 (cfg0.slots t 1)) (hstage0_1 (cfg0.slots t 1)) (stage0_2 (cfg0.slots t 2)) (hstage0_2 (cfg0.slots t 2))
    (stage0_3 (cfg0.slots t 3)) (hstage0_3 (cfg0.slots t 3)) (win0_0.fill (grid0.coords t) d0 (iblk m c 0 t)) (iblk m c 1 t)
    (table m c) (holds_block m c t d0) hM j
  have e3 := funext fun y => nots_at c (grid0.coords t) (stage0_0 (cfg0.slots t 0)) (hstage0_0 (cfg0.slots t 0))
    (stage0_1 (cfg0.slots t 1)) (hstage0_1 (cfg0.slots t 1)) (stage0_2 (cfg0.slots t 2)) (hstage0_2 (cfg0.slots t 2))
    (stage0_3 (cfg0.slots t 3)) (hstage0_3 (cfg0.slots t 3)) (win0_0.fill (grid0.coords t) d0 (iblk m c 0 t)) (iblk m c 1 t) y
  rw [e2, e3]
  iintro ⟨H0, H1, H2, H3⟩
  isplitl [HΦ]; · iexact HΦ
  isplitl [Ho]; · iexact Ho
  have hx : win0_0.cut (grid0.coords t) (win0_0.fill (grid0.coords t) (fun _ => (0 : EReal)) (iblk m c 0 t)) = iblk m c 0 t :=
    win0_0.cut_fill _ _ _
  isplitl [H0]
  · iexists d0
    change _ ⊢ owns (c : Thread nD τ) (stage0_0 (cfg0.slots t 0)) fullShare (win0_0.fill (grid0.coords t) d0
      (win0_0.cut (grid0.coords t) (win0_0.fill (grid0.coords t) (fun _ => (0 : EReal)) (iblk m c 0 t))))
    rw [hx]; try iexact H0
  isplitl [H1]; · iexact H1
  isplitl [H2]; · iexact H2
  iexact H3

/-! ## The arrays after the run -/

/-- A column's index of a row. -/
abbrev column (o : Fin 1024) : S1024x1.Idx := fun a => match a with
  | ⟨0, _⟩ => o
  | ⟨1, _⟩ => (⟨0, Nat.one_pos⟩ : Fin 1)

/-- A vector's index of a row. -/
abbrev place (o : Fin 1024) : S1024.Idx := fun a => match a with
  | ⟨0, _⟩ => o

/-- The samples the run leaves. -/
def samplesOf (c : Dev nD) : S1024x2.Idx → BitVec 32 := fun j => BitVec.ofNat 32 (firstAt (table m c) (j 1).val (j 0)).val

/-- The column of comparisons the run leaves. -/
def columnOf (c : Dev nD) : S1024x1.Idx → EReal := fun j => drawn (j 0).val ((show S1024x1.Idx → EReal from V m c (Pipeline.arrRef spec0 1)) j)

theorem coord_lt (i : grid0.Coords) : (i 0).val < 128 := (i 0).isLt

theorem coord_word (i : grid0.Coords) : (BitVec.ofNat 32 (i 0).val).toNat = (i 0).val := by
  have h := coord_lt i
  rw [BitVec.toNat_ofNat, Nat.mod_eq_of_lt (by omega)]

/-- Where a point's block of samples sits. -/
theorem samples_place (t : Fin grid0.N) (y : S8x2.Idx) :
    ((win0_2.blk t).view.emb y 0).val = rowOf (grid0.coords t) (y 0).val ∧ ((win0_2.blk t).view.emb y 1).val = (y 1).val := by
  refine ⟨(Window.rect_emb_val win0_2 t y (0 : Fin 2)).trans ?_, (Window.rect_emb_val win0_2 t y (1 : Fin 2)).trans (first_block rfl _ _)⟩
  exact (Nat.add_comm _ _).trans (congrArg (fun n => (y 0).val + n * 8) (coord_word (grid0.coords t)))

/-- Where a point's block of the column sits. -/
theorem column_place (t : Fin grid0.N) (y : S8x1.Idx) : ((win0_3.blk t).view.emb y 0).val = rowOf (grid0.coords t) (y 0).val := by
  refine (Window.rect_emb_val win0_3 t y (0 : Fin 2)).trans ?_
  exact (Nat.add_comm _ _).trans (congrArg (fun n => (y 0).val + n * 8) (coord_word (grid0.coords t)))

theorem sample_congr (x : Fin 1024 → Fin 100000 → EReal) {s s' : ℕ} {o o' : Fin 1024} (hs : s = s') (ho : o.val = o'.val) :
    BitVec.ofNat 32 (firstAt x s o).val = BitVec.ofNat 32 (firstAt x s' o').val := by
  rw [hs, Fin.ext ho]

theorem samples_array (c : Dev nD) : (runDats m 0 c).arrAt (2 : Fin 4) cfg0.N = samplesOf m c := by
  refine (runDats m 0 c).arrAt_eq_of_covers 2 _ (by decide +kernel) fun t hf y => ?_
  blk_simp
  have h := samples_place t y
  exact sample_congr (table m c) h.2.symm h.1.symm

theorem column_array (c : Dev nD) : (runDats m 0 c).arrAt (3 : Fin 4) cfg0.N = columnOf m c := by
  refine (runDats m 0 c).arrAt_eq_of_covers 3 _ (by decide +kernel) fun t hf y => ?_
  blk_simp
  exact congrArg (fun n => drawn n (iblk m c 1 t y)) (column_place t y).symm

theorem entry_probability (c : Dev nD) : V m c main_v0 = shapeCast S1024x1 (m ((c.tc : Thread nD τ).loc main_arg1)) shapeCasts_S1024_S1024x1 := by
  rfl

/-- The comparisons the program returns. -/
def notsOf (c : Dev nD) : S1024.Idx → EReal :=
  fun j => drawn (j 0).val ((show S1024.Idx → EReal from m ((c.tc : Thread nD τ).loc main_arg1)) j)

theorem column_apply_nots (c : Dev nD) : shapeCast S1024 (columnOf m c) shapeCasts_S1024x1_S1024 = notsOf m c := by
  funext j
  rw [shapeCast_apply (columnOf m c) shapeCasts_S1024x1_S1024 j (column (j 0)) (by
    rw [Shape.rowMajor_val_one, Shape.rowMajor_val_two]
    show (j 0).val * 1 + 0 = (j 0).val
    rw [Nat.mul_one, Nat.add_zero])]
  unfold columnOf notsOf
  refine congrArg (drawn (j 0).val) ?_
  refine (congrFun (entry_probability m c) (column (j 0))).trans ?_
  exact shapeCast_apply _ shapeCasts_S1024_S1024x1 (column (j 0)) j (by
    rw [Shape.rowMajor_val_one, Shape.rowMajor_val_two]
    show (j 0).val = (j 0).val * 1 + 0
    rw [Nat.mul_one, Nat.add_zero])

/-- What the host line after the region leaves: the column read as a vector. -/
theorem tail_nots (c : Dev nD) : Pipeline.afterTail₀ cfgs (runDats m) 0 (V0 m) [hostOps1] c main_v2 = notsOf m c := by
  refine Eq.trans ?_ (column_apply_nots m c)
  rw [← column_array m c]
  exact congrArg (fun v => shapeCast S1024 v shapeCasts_S1024x1_S1024)
    (Pipeline.withArrays_arr spec0 (by decide) c (V0 m c) (fun w => (runDats m 0 c).arrAt w cfg0.N) 3)

set_option backward.isDefEq.respectTransparency.types false in
/-- When every row's maximum is finite, the program ends with the samples and the comparisons, its arguments unchanged. -/
theorem value_run (hM : ∀ c o, ∃ M : ℝ, rowMax (table m c o) = M) :
    θ_run defs (onTc (τ := τ) (main (F := Ideal))) ⟨m, fun _ => 0, ρ⟩ (fun r => ∀ c : Dev nD,
      r.2.mem ((c.tc : Thread nD τ).loc main_v1_0) = samplesOf m c
      ∧ r.2.mem ((c.tc : Thread nD τ).loc main_v2) = notsOf m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_frame_around cfgs (runDats m) (0 : Fin 1) launch0 defs₀ Variants.none m ρ main
    (fun c => run_obligation m c (hM c)) (fun c => (runDats m 0 c).share_full fun _ => rfl) (fun _ _ => rfl)
    (V0 m) [hostOps1] sfx_sub sfx_fresh sfx_keeps (hmain m Variants.none)
    (fun _ _ => rfl) (fun _ _ => rfl) _
    (fun r h c => ⟨((h.1 c).1 2).trans (samples_array m c),
      ((h.1 c).2 main_v2 (Pipeline.mem_restRefs_of main_v2 (by decide) (by decide))).trans (tail_nots m c),
      ((h.1 c).1 0).trans (((runDats m 0 c).arrAt_in 0 rfl _).trans (V_main_arg0 m c)),
      ((h.1 c).2 main_arg1 (Pipeline.mem_restRefs_of main_arg1 (by decide) (by decide))).trans (W_main_arg1 m (runDats m) c)⟩)

end Cert.KernelIdealProof

end
-- ==== Proof.ReferenceHash.lean ====
/-
  The reference's hash, whole arrays at a time, read at one position: the two key words it splits off, the bits of every
  sample's draw and of every comparison's.
-/
module

public import proofs.«01_k».proof.Proof.Gen.ReferenceIdeal.Read
public import proofs.«01_k».proof.Proof.Hash
public import Idealize.ShloMosaic.Lib.Pipeline.Regions

@[expose] public section

set_option maxRecDepth 65536
set_option maxHeartbeats 4000000

noncomputable section

namespace Cert.ReferenceProof

open Cert.ReferenceIdeal Cert.ReferenceIdeal.Gen Cert.ReferenceIdeal.Read Cert.Draws
open Idealize.ShloMosaic Idealize.ShloMosaic.TcCoe Idealize.ShloMosaic.Tactic
open Idealize.SL Idealize.SL.Sem

variable {F : FTy → Type} [FloatOps F]

section Hash

variable {s : Shape} {β : Type} (h : S_.BroadcastsInDim s (![] : Fin 0 → Fin s.rank))

/-- The one index of a scalar. -/
def e0 : S_.Idx := fun a => a.elim0

/-- A scalar at every position. -/
def allH (k : IVec S_ 32) : IVec s 32 := broadcastInDim s ![] h k

theorem allH_apply (k : IVec S_ 32) (j : s.Idx) : allH h k j = k e0 := by
  unfold allH broadcastInDim
  congr 1
  funext a
  exact a.elim0

/-- Every word turned left by `a` bits, `b` being 32 − a. -/
def rotH (a b : BitVec 32) (x : IVec s 32) : IVec s 32 :=
  ori (Host.shli x (allH h (constantI S_ 32 a))) (Host.shrui x (allH h (constantI S_ 32 b)))

/-- The reference's four rounds. -/
def roundsH (a₁ b₁ a₂ b₂ a₃ b₃ a₄ b₄ : BitVec 32) (x0 x1 : IVec s 32) (K : IVec s 32 → IVec s 32 → β) : β :=
  let z₁ := addi x0 x1
  let y₁ := xori z₁ (rotH h a₁ b₁ x1)
  let z₂ := addi z₁ y₁
  let y₂ := xori z₂ (rotH h a₂ b₂ y₁)
  let z₃ := addi z₂ y₂
  let y₃ := xori z₃ (rotH h a₃ b₃ y₂)
  let z₄ := addi z₃ y₃
  let y₄ := xori z₄ (rotH h a₄ b₄ y₃)
  K z₄ y₄

def evenH (k k' : IVec S_ 32) (n : BitVec 32) (x0 x1 : IVec s 32) (K : IVec s 32 → IVec s 32 → β) : β :=
  roundsH h 13#32 19#32 15#32 17#32 26#32 6#32 6#32 26#32 x0 x1 fun z y =>
    K (addi z (allH h k)) (addi (addi y (allH h k')) (allH h (constantI S_ 32 n)))

def oddH (k k' : IVec S_ 32) (n : BitVec 32) (x0 x1 : IVec s 32) (K : IVec s 32 → IVec s 32 → β) : β :=
  roundsH h 17#32 15#32 29#32 3#32 16#32 16#32 24#32 8#32 x0 x1 fun z y =>
    K (addi z (allH h k)) (addi (addi y (allH h k')) (allH h (constantI S_ 32 n)))

/-- The reference's hash of counts under a key. -/
def hashH (k0 k1 k2 : IVec S_ 32) (n : IVec s 32) (K : IVec s 32 → IVec s 32 → β) : β :=
  evenH h k1 k2 1#32 (addi (allH h (constantI S_ 32 0#32)) (allH h k0)) (addi n (allH h k1)) fun z y =>
  oddH h k2 k0 2#32 z y fun z y =>
  evenH h k0 k1 3#32 z y fun z y =>
  oddH h k1 k2 4#32 z y fun z y =>
  evenH h k2 k0 5#32 z y K

theorem rotH_apply (a b : BitVec 32) (ha : a.toNat < 32) (hb : b.toNat < 32) (x : IVec s 32) (j : s.Idx) :
    rotH h a b x j = rot a b (x j) := by
  show IntOp.ori (IntOp.shli .host (x j) (allH h _ j)) (IntOp.shrui .host (x j) (allH h _ j)) = _
  rw [allH_apply, allH_apply]
  show IntOp.ori (IntOp.shli .host (x j) a) (IntOp.shrui .host (x j) b) = _
  simp only [rot, IntOp.shli, IntOp.shrui, if_pos ha, if_pos hb]

/-- The rounds at every position are the rounds of that position's words. -/
theorem roundsH_eq (a₁ b₁ a₂ b₂ a₃ b₃ a₄ b₄ : BitVec 32)
    (h₁ : a₁.toNat < 32 ∧ b₁.toNat < 32) (h₂ : a₂.toNat < 32 ∧ b₂.toNat < 32) (h₃ : a₃.toNat < 32 ∧ b₃.toNat < 32)
    (h₄ : a₄.toNat < 32 ∧ b₄.toNat < 32) (x0 x1 : IVec s 32) (K : IVec s 32 → IVec s 32 → β) :
    roundsH h a₁ b₁ a₂ b₂ a₃ b₃ a₄ b₄ x0 x1 K
      = K (fun j => (rounds a₁ b₁ a₂ b₂ a₃ b₃ a₄ b₄ (x0 j + x1 j) (x1 j)).1)
        (fun j => (rounds a₁ b₁ a₂ b₂ a₃ b₃ a₄ b₄ (x0 j + x1 j) (x1 j)).2) := by
  have e : ∀ a b : BitVec 32, a.toNat < 32 ∧ b.toNat < 32 → ∀ x : IVec s 32, rotH h a b x = fun j => rot a b (x j) :=
    fun a b hab x => funext fun j => rotH_apply h a b hab.1 hab.2 x j
  simp only [roundsH, e _ _ h₁, e _ _ h₂, e _ _ h₃, e _ _ h₄]
  rfl

theorem evenH_eq (k k' : IVec S_ 32) (n : BitVec 32) (x0 x1 : IVec s 32) (K : IVec s 32 → IVec s 32 → β) :
    evenH h k k' n x0 x1 K
      = K (fun j => (even (k e0) (k' e0 + n) (x0 j + x1 j) (x1 j)).1) (fun j => (even (k e0) (k' e0 + n) (x0 j + x1 j) (x1 j)).2) := by
  rw [evenH, roundsH_eq h _ _ _ _ _ _ _ _ (by decide) (by decide) (by decide) (by decide)]
  congr 1
  · funext j
    show IntOp.addi _ (allH h k j) = _
    rw [allH_apply]; rfl
  · funext j
    show (_ + allH h k' j) + allH h (constantI S_ 32 n) j = _
    rw [allH_apply, allH_apply]; exact BitVec.add_assoc _ _ _

theorem oddH_eq (k k' : IVec S_ 32) (n : BitVec 32) (x0 x1 : IVec s 32) (K : IVec s 32 → IVec s 32 → β) :
    oddH h k k' n x0 x1 K
      = K (fun j => (odd (k e0) (k' e0 + n) (x0 j + x1 j) (x1 j)).1) (fun j => (odd (k e0) (k' e0 + n) (x0 j + x1 j) (x1 j)).2) := by
  rw [oddH, roundsH_eq h _ _ _ _ _ _ _ _ (by decide) (by decide) (by decide) (by decide)]
  congr 1
  · funext j
    show IntOp.addi _ (allH h k j) = _
    rw [allH_apply]; rfl
  · funext j
    show (_ + allH h k' j) + allH h (constantI S_ 32 n) j = _
    rw [allH_apply, allH_apply]; exact BitVec.add_assoc _ _ _

/-- The hash at every position is the hash of that position's count. -/
theorem hashH_eq (k0 k1 k2 : IVec S_ 32) (n : IVec s 32) (K : IVec s 32 → IVec s 32 → β) :
    hashH h k0 k1 k2 n K
      = K (fun j => (pair (k0 e0) (k1 e0) (k2 e0) (k0 e0 + (n j + k1 e0)) (n j + k1 e0)).1)
        (fun j => (pair (k0 e0) (k1 e0) (k2 e0) (k0 e0 + (n j + k1 e0)) (n j + k1 e0)).2) := by
  have hx : addi (allH h (constantI S_ 32 0#32)) (allH h k0) = fun _ : s.Idx => k0 e0 := by
    funext j
    show allH h (constantI S_ 32 0#32) j + allH h k0 j = _
    rw [allH_apply, allH_apply]
    exact BitVec.zero_add _
  have hy : addi n (allH h k1) = fun j => n j + k1 e0 := by
    funext j
    show n j + allH h k1 j = _
    rw [allH_apply]
  rw [hashH, hx, hy]
  simp only [evenH_eq, oddH_eq]
  rfl

end Hash

/-- The words the key is split into. -/
theorem split_eq :
    val_main_v38 (F := F) = hashH bcast_S_S2 (constantI S_ 32 0#32) (constantI S_ 32 42#32) (val_main_v2 (F := F)) (iotaInDim S2 32 0) (fun z _ => z)
    ∧ val_main_v42 (F := F) = hashH bcast_S_S2 (constantI S_ 32 0#32) (constantI S_ 32 42#32) (val_main_v2 (F := F)) (iotaInDim S2 32 0) (fun _ y => y) := by
  constructor
  · chain_rfl
  · chain_rfl

/-- The words of the samples' draws. -/
theorem bits_eq : val_main_v103 (F := F)
    = hashH bcast_S_S2x1024x100000 (val_main_v44 (F := F)) (val_main_v46 (F := F)) (val_main_v62 (F := F)) (val_main_v60 (F := F)) xori := by
  chain_rfl

/-- The words of the comparisons' draws. -/
theorem bits'_eq : val_main_v175 (F := F)
    = hashH bcast_S_S1024 (val_main_v48 (F := F)) (val_main_v50 (F := F)) (val_main_v134 (F := F)) (val_main_v132 (F := F)) xori := by
  chain_rfl

theorem idx_S1 (i j : S1.Idx) : i = j := by
  funext a
  match a with
  | ⟨0, _⟩ => exact Fin.ext (by have h1 := (i 0).isLt; have h2 := (j 0).isLt; simp only [S1, Shape.size] at h1 h2; simp at h1 h2; exact h1.trans h2.symm)

def i0 : S1.Idx := fun a => match a with
  | ⟨0, _⟩ => ⟨0, Nat.one_pos⟩

theorem shapeCast_S1 (x : IVec S1 32) (i : S1.Idx) (j : S_.Idx) : shapeCast S_ x shapeCasts_S1_S_ j = x i :=
  congrArg x (idx_S1 _ _)

/-- The key's third word, of the key the keys are split from. -/
theorem v2_eq : val_main_v2 (F := F) e0 = 466689008#32 := by
  show IntOp.xori (IntOp.xori 0#32 42#32) 466688986#32 = _
  decide +kernel

theorem key_eq : val_main_v44 (F := F) e0 = 1832780943#32 ∧ val_main_v46 (F := F) e0 = 270669613#32
    ∧ val_main_v48 (F := F) e0 = 64467757#32 ∧ val_main_v50 (F := F) e0 = 2916123636#32 := by
  refine ⟨?_, ?_, ?_, ?_⟩
  · unfold val_main_v44
    rw [shapeCast_S1 _ i0]
    rw [val_main_v43_apply, split_eq.1, hashH_eq, v2_eq]
    show (pair 0#32 42#32 466689008#32 (0#32 + (0#32 + 42#32)) (0#32 + 42#32)).1 = _
    decide +kernel
  · unfold val_main_v46
    rw [shapeCast_S1 _ i0]
    rw [val_main_v45_apply, split_eq.2, hashH_eq, v2_eq]
    show (pair 0#32 42#32 466689008#32 (0#32 + (0#32 + 42#32)) (0#32 + 42#32)).2 = _
    decide +kernel
  · unfold val_main_v48
    rw [shapeCast_S1 _ i0]
    rw [val_main_v47_apply, split_eq.1, hashH_eq, v2_eq]
    show (pair 0#32 42#32 466689008#32 (0#32 + (1#32 + 42#32)) (1#32 + 42#32)).1 = _
    decide +kernel
  · unfold val_main_v50
    rw [shapeCast_S1 _ i0]
    rw [val_main_v49_apply, split_eq.2, hashH_eq, v2_eq]
    show (pair 0#32 42#32 466689008#32 (0#32 + (1#32 + 42#32)) (1#32 + 42#32)).2 = _
    decide +kernel

theorem key'_eq : val_main_v62 (F := F) e0 = 1724713080#32 ∧ val_main_v134 (F := F) e0 = 3050711811#32 := by
  constructor
  · rw [val_main_v62_apply, val_main_v61_apply, key_eq.1, key_eq.2.1]
    show IntOp.xori (IntOp.xori 1832780943#32 270669613#32) 466688986#32 = _
    decide +kernel
  · rw [val_main_v134_apply, val_main_v133_apply, key_eq.2.2.1, key_eq.2.2.2]
    show IntOp.xori (IntOp.xori 64467757#32 2916123636#32) 466688986#32 = _
    decide +kernel

/-- The word of a sample's draw is the hash of its position. -/
theorem bits_apply (j : S2x1024x100000.Idx) : val_main_v103 (F := F) j
    = word 1832780943#32 270669613#32 1724713080#32 (BitVec.ofNat 32 (((j 0).val * 1024 + (j 1).val) * 100000 + (j 2).val)) := by
  have hn : val_main_v60 (F := F) j = BitVec.ofNat 32 (((j 0).val * 1024 + (j 1).val) * 100000 + (j 2).val) := by
    show (BitVec.ofNat 32 (j 2).val + BitVec.ofNat 32 (j 0).val * 102400000#32) + BitVec.ofNat 32 (j 1).val * 100000#32 = _
    rw [← BitVec.ofNat_mul, ← BitVec.ofNat_mul, ← BitVec.ofNat_add, ← BitVec.ofNat_add]
    congr 1
    ring
  rw [bits_eq, hashH_eq, key_eq.1, key_eq.2.1, key'_eq.1]
  show word _ _ _ (val_main_v60 (F := F) j) = _
  rw [hn]

/-- The word of a comparison's draw is the hash of its row. -/
theorem bits'_apply (j : S1024.Idx) : val_main_v175 (F := F) j
    = word 64467757#32 2916123636#32 3050711811#32 (BitVec.ofNat 32 (j 0).val) := by
  rw [bits'_eq, hashH_eq, key_eq.2.2.1, key_eq.2.2.2, key'_eq.2]
  rfl

end Cert.ReferenceProof

end
-- ==== Proof.ReferenceDraws.lean ====
/-
  The reference's draws read at an index: the Gumbel draws of the samples, and the comparison of a row's uniform draw with
  its probability.
-/
module

public import proofs.«01_k».proof.Proof.ReferenceHash
public import proofs.«01_k».proof.Proof.Score

@[expose] public section

set_option maxHeartbeats 400000

noncomputable section

namespace Cert.ReferenceProof

open Cert.ReferenceIdeal Cert.ReferenceIdeal.Gen Cert.ReferenceIdeal.Read Cert.Draws
open Idealize.ShloMosaic Idealize.ShloMosaic.TcCoe Idealize.ShloMosaic.Tactic
open Idealize.SL Idealize.SL.Sem

/-- The table's index of a row and a column. -/
abbrev mat (o : Fin 1024) (i : Fin 100000) : S1024x100000.Idx := fun a => match a with
  | ⟨0, _⟩ => o
  | ⟨1, _⟩ => i

/-- The row of samples and of draws. -/
abbrev cube (s : Fin 2) (o : Fin 1024) (i : Fin 100000) : S2x1024x100000.Idx := fun a => match a with
  | ⟨0, _⟩ => s
  | ⟨1, _⟩ => o
  | ⟨2, _⟩ => i

abbrev vec (o : Fin 1024) : S1024.Idx := fun a => match a with
  | ⟨0, _⟩ => o

abbrev duo (s : Fin 2) (o : Fin 1024) : S2x1024.Idx := fun a => match a with
  | ⟨0, _⟩ => s
  | ⟨1, _⟩ => o

variable (x0 : (⟨S1024x100000, .f32⟩ : BufTy).Contents (Elt Ideal))

/-- The table as a function of row and column. -/
abbrev tab : Fin 1024 → Fin 100000 → EReal := fun o i => x0 (mat o i)

section Draws

variable {F : FTy → Type} [FloatOps F] {s : Shape} (h : S_.BroadcastsInDim s (![] : Fin 0 → Fin s.rank))

/-- A float scalar at every position. -/
def allF (k : FVec F S_ .f32) : FVec F s .f32 := broadcastInDim s ![] h k

theorem allF_apply (k : FVec F S_ .f32) (j : s.Idx) : allF h k j = k e0 := by
  unfold allF broadcastInDim
  congr 1
  funext a
  exact a.elim0

/-- The reference's numbers of [0, 1). -/
def unitH (b : IVec s 32) : FVec F s .f32 :=
  subf (bitcastToFloat (F := F) .f32 (ori (Host.shrui b (allH h (constantI S_ 32 9#32))) (allH h (constantI S_ 32 1065353216#32))))
    (allF h (constant S_ .f32 0x3F800000#32))

/-- Those numbers as the uniform draw of [`lo`, 1). -/
def uniformH (lo : BitVec 32) (b : IVec s 32) : FVec F s .f32 :=
  maximumf (allF h (constant S_ .f32 lo))
    (addf (mulf (unitH h b) (allF h (constant S_ .f32 0x3F800000#32))) (allF h (constant S_ .f32 lo)))

/-- The reference's Gumbel draws. -/
def gumbelH (b : IVec s 32) : FVec F s .f32 :=
  Host.negf (Host.log (Host.negf (Host.log (uniformH h 0x00800000#32 b))))

end Draws

section Apply

variable {s : Shape} (h : S_.BroadcastsInDim s (![] : Fin 0 → Fin s.rank)) (b : IVec s 32) (j : s.Idx)

theorem shrui9 (x : BitVec 32) : IntOp.shrui .host x 9#32 = IntOp.shrui .vector x 9#32 := by
  simp [IntOp.shrui]

theorem unitH_apply : unitH (F := Ideal) h b j = unitOf (b j) := by
  have e : unitH (F := Ideal) h b j = FloatOps.subf (FloatOps.ofBits .f32 (IntOp.ori (IntOp.shrui .host (b j)
      (allH h (constantI S_ 32 9#32) j)) (allH h (constantI S_ 32 1065353216#32) j)))
      (allF (F := Ideal) h (constant S_ .f32 0x3F800000#32) j) := rfl
  rw [e, allH_apply, allH_apply, allF_apply]
  generalize b j = x
  show FloatOps.subf (FloatOps.ofBits .f32 (IntOp.ori (IntOp.shrui .host x 9#32) 1065353216#32)) (FloatOps.ofBits (F := Ideal) .f32 0x3F800000#32) = _
  rw [shrui9, Ideal.subf_def, Ideal.ofBits_def, Ideal.ofBits_def]
  rfl

theorem uniformH_apply (lo : BitVec 32) (l : ℝ) (hl : Ideal.ofBits .f32 lo = l) :
    uniformH (F := Ideal) h lo b j = unitOf (b j) + l := by
  have e : uniformH (F := Ideal) h lo b j = FloatOps.maximumf (allF (F := Ideal) h (constant S_ .f32 lo) j)
      (FloatOps.addf (FloatOps.mulf (unitH h b j) (allF h (constant S_ .f32 0x3F800000#32) j)) (allF h (constant S_ .f32 lo) j)) := rfl
  rw [e, allF_apply, allF_apply, unitH_apply]
  have c1 : (constant S_ .f32 0x3F800000#32 : FVec Ideal S_ .f32) e0 = 1 := by
    rw [← EReal.coe_one, ← ofBits_one]; rfl
  have c2 : (constant S_ .f32 lo : FVec Ideal S_ .f32) e0 = (l : EReal) := by
    rw [← hl]; rfl
  rw [c1, c2]
  obtain ⟨r, hr, h0, _⟩ := unitOf_real (b j)
  rw [hr, Ideal.maximumf_def, Ideal.addf_def, Ideal.mulf_def, mul_one, ← EReal.coe_add]
  exact max_eq_right (EReal.coe_le_coe_iff.mpr (by linarith))

theorem gumbelH_apply : gumbelH (F := Ideal) h b j = gumbelOf (b j) := by
  have e : gumbelH (F := Ideal) h b j = FloatOps.hostNegf (FloatOps.hostUnary .log (FloatOps.hostNegf (FloatOps.hostUnary .log
      (uniformH h 0x00800000#32 b j)))) := rfl
  rw [e, uniformH_apply h b j _ _ tiny_eq, ← tiny_eq]
  simp only [Ideal.hostNegf_def, Ideal.hostUnary_log_def, Ideal.negf_def]
  rw [gumbelOf, zero_sub, zero_sub]

end Apply

/-- The reference's Gumbel draws, of the words of the samples' draws. -/
theorem gumbel_eq {F : FTy → Type} [FloatOps F] : val_main_v120 (F := F) = gumbelH bcast_S_S2x1024x100000 (val_main_v103 (F := F)) := by
  chain_rfl

/-- The uniform draws of the rows. -/
theorem uniform_eq {F : FTy → Type} [FloatOps F] : val_main_v188 (F := F) = uniformH bcast_S_S1024 0x00000000#32 (val_main_v175 (F := F)) := by
  chain_rfl

theorem gumbel_apply (j : S2x1024x100000.Idx) : val_main_v120 (F := Ideal) j = gumbelOf (val_main_v103 (F := Ideal) j) := by
  rw [gumbel_eq, gumbelH_apply]

/-- The comparisons. -/
theorem nots_apply (x1 : (⟨S1024, .f32⟩ : BufTy).Contents (Elt Ideal)) (o : Fin 1024) :
    val_main_v190 (F := Ideal) x1 (vec o) = drawn o.val (x1 (vec o)) := by
  have h : val_main_v188 (F := Ideal) (vec o) = unitOf (rowWord o.val) := by
    rw [uniform_eq, uniformH_apply _ _ _ _ 0 (by rw [ofBits_zero, EReal.coe_zero]), bits'_apply, EReal.coe_zero, add_zero]
  rw [val_main_v190_apply, val_main_v189_apply, h]
  generalize x1 (vec o) = p
  have e : FloatOps.uitofp (F := Ideal) .f32 (FloatOps.cmpf (F := Ideal) (φ := .f32) .olt (unitOf (rowWord o.val)) p)
      = (((Ideal.cmp .olt (unitOf (rowWord o.val)) p).toNat : ℝ) : EReal) := rfl
  rw [e, drawn]
  generalize unitOf (rowWord o.val) = u
  by_cases hlt : u < p <;> simp [Ideal.cmp, hlt]

end Cert.ReferenceProof

end
-- ==== Proof.ReferenceValue.lean ====
/-
  The reference's samples read at an index: the first position at which a row's perturbed entries attain their maximum.
-/
module

public import proofs.«01_k».proof.Proof.ReferenceDraws

@[expose] public section

set_option maxHeartbeats 400000

noncomputable section

namespace Cert.ReferenceProof

open Cert.ReferenceIdeal Cert.ReferenceIdeal.Gen Cert.ReferenceIdeal.Read Cert.Draws
open Idealize.ShloMosaic Idealize.ShloMosaic.TcCoe Idealize.ShloMosaic.Tactic
open Idealize.SL Idealize.SL.Sem

variable (x0 : (⟨S1024x100000, .f32⟩ : BufTy).Contents (Elt Ideal))

theorem red_row : S1024x100000.Reduces [1] S1024 := by decide
theorem red_cube : S2x1024x100000.Reduces [2] S2x1024 := by decide

theorem lift_row (o : Fin 1024) (i : Fin 100000) : red_row.lift (vec o) i = mat o i :=
  funext fun a => Fin.ext (by match a with | ⟨0, _⟩ => rfl | ⟨1, _⟩ => rfl)

theorem lift_cube (s : Fin 2) (o : Fin 1024) (i : Fin 100000) : red_cube.lift (duo s o) i = cube s o i :=
  funext fun a => Fin.ext (by match a with | ⟨0, _⟩ => rfl | ⟨1, _⟩ => rfl | ⟨2, _⟩ => rfl)

/-- The reference's row maximum. -/
theorem rowMax_apply (o : Fin 1024) : val_main_call5_v2 (F := Ideal) x0 (vec o) = rowMax (tab x0 o) := by
  rw [val_main_call5_v2_apply, val_main_call5_v1_apply, val_main_call5_cst_0_apply]
  have h : val_main_call5_v0 (F := Ideal) x0 (vec o) = rowMax (tab x0 o) := by
    unfold val_main_call5_v0
    rw [Host.reduce_eq_fold_single (FloatOps.maximumf (F := Ideal) (φ := .f32)) x0 _ reducesTo_S1024x100000_S1024_d1 red_row]
    have e : (x0 ∘ red_row.lift (vec o)) = tab x0 o := funext fun i => congrArg x0 (lift_row o i)
    rw [e]
    show Finset.univ.fold max (Ideal.ofBits .f32 0xFF800000#32) _ = _
    rw [ofBits_bot]
    rfl
  rw [h]
  show max (Ideal.ofBits .f32 0xFF800000#32) _ = _
  rw [ofBits_bot]
  exact max_eq_right bot_le

/-- The reference's logarithms of the normalised entries. -/
theorem logits_apply (o : Fin 1024) (i : Fin 100000) : val_main_v51 (F := Ideal) x0 (mat o i)
    = (tab x0 o i - rowMax (tab x0 o)) - Ideal.log (0 + ∑ k, Ideal.exp (tab x0 o k - rowMax (tab x0 o))) := by
  have h5 : ∀ k, val_main_call5_v5 (F := Ideal) x0 (mat o k) = tab x0 o k - rowMax (tab x0 o) := by
    intro k
    have e : idx_main_call5_v3 (idx_main_call5_v4 (mat o k)) = vec o := funext fun a => Fin.ext (by match a with | ⟨0, _⟩ => rfl)
    rw [val_main_call5_v5_apply, val_main_call5_v4_apply, val_main_call5_v3_apply, e, rowMax_apply, Ideal.subf_def]
  have h6 : ∀ k, val_main_call5_v6 (F := Ideal) x0 (mat o k) = Ideal.exp (tab x0 o k - rowMax (tab x0 o)) := by
    intro k
    rw [val_main_call5_v6_apply, h5, Ideal.hostUnary_exp_def]
  have e8 : idx_main_call5_v8 (idx_main_call5_v10 (mat o i)) = vec o := funext fun a => Fin.ext (by match a with | ⟨0, _⟩ => rfl)
  have e7 : ∀ k : Fin 100000, idx_main_call5_v7 (vec o) k = mat o k := fun k =>
    funext fun a => Fin.ext (by match a with | ⟨0, _⟩ => rfl | ⟨1, _⟩ => rfl)
  have hs : ∑ k : Fin 100000, val_main_call5_v6 (F := Ideal) x0 (idx_main_call5_v7 (vec o) k)
      = ∑ k, Ideal.exp (tab x0 o k - rowMax (tab x0 o)) := Finset.sum_congr rfl fun k _ => by rw [e7, h6]
  have hz : val_main_call5_cst_1 (F := Ideal) (Shape.Idx.first h_S_) = 0 := ofBits_zero
  rw [val_main_v51_apply, h5, val_main_call5_v10_apply, val_main_call5_v9_apply, val_main_call5_v8_apply, e8, val_main_call5_v7_apply,
    hs, hz, Ideal.subf_def, Ideal.hostUnary_log_def]

/-- The reference's perturbed entries. -/
theorem perturbed_apply (s : Fin 2) (o : Fin 1024) (i : Fin 100000) : val_main_v123 (F := Ideal) x0 (cube s o i)
    = gumbelOf (sampleWord ((s.val * 1024 + o.val) * 100000 + i.val)) + val_main_v51 (F := Ideal) x0 (mat o i) := by
  have e : idx_main_v121 (idx_main_v122 (cube s o i)) = mat o i :=
    funext fun a => Fin.ext (by match a with | ⟨0, _⟩ => rfl | ⟨1, _⟩ => rfl)
  rw [val_main_v123_apply, gumbel_apply, bits_apply, val_main_v122_apply, val_main_v121_apply, e, Ideal.addf_def]

/-- The rows' maxima, at every position of the row. -/
def maxH {F : FTy → Type} [FloatOps F] (v : FVec F S2x1024x100000 .f32) : FVec F S2x1024x100000 .f32 :=
  broadcastInDim S2x1024x100000 ![0, 1, 2] bcast_S2x1024x1_S2x1024x100000_0_1_2 (broadcastInDim S2x1024x1 ![0, 1] bcast_S2x1024_S2x1024x1_0_1
    (Host.reduce FloatOps.maximumf v (constant S_ .f32 0xFF800000#32) reducesTo_S2x1024x100000_S2x1024_d2 h_S_))

/-- The least position of each row that attains the row's maximum. -/
def firstH {F : FTy → Type} [FloatOps F] (v : FVec F S2x1024x100000 .f32) : IVec S2x1024 32 :=
  Host.reduce IntOp.minsi (select (cmpf .oeq v (maxH v)) (iotaInDim S2x1024x100000 32 2) (allH bcast_S_S2x1024x100000 (constantI S_ 32 100000#32)))
    (constantI S_ 32 2147483647#32) reducesTo_S2x1024x100000_S2x1024_d2 h_S_

theorem first_eq {F : FTy → Type} [FloatOps F] (x : (⟨S1024x100000, .f32⟩ : BufTy).Contents (Elt F)) :
    val_main_v130 (F := F) x = firstH (val_main_v123 (F := F) x) := by
  chain_rfl

theorem maxH_apply (v : FVec Ideal S2x1024x100000 .f32) (s : Fin 2) (o : Fin 1024) (i : Fin 100000) :
    maxH v (cube s o i) = (Finset.univ : Finset (Fin 100000)).fold max ⊥ (fun i => v (cube s o i)) := by
  have e : maxH v (cube s o i) = Host.reduce FloatOps.maximumf v (constant S_ .f32 0xFF800000#32) reducesTo_S2x1024x100000_S2x1024_d2 h_S_ (duo s o) := by
    unfold maxH
    generalize Host.reduce FloatOps.maximumf v (constant S_ .f32 0xFF800000#32) reducesTo_S2x1024x100000_S2x1024_d2 h_S_ = y
    unfold broadcastInDim
    congr 1
    funext a
    apply Fin.ext
    match a with
    | ⟨0, _⟩ => rfl
    | ⟨1, _⟩ => rfl
  rw [e, Host.reduce_eq_fold_single (FloatOps.maximumf (F := Ideal) (φ := .f32)) _ _ reducesTo_S2x1024x100000_S2x1024_d2 red_cube]
  have e2 : (v ∘ red_cube.lift (duo s o)) = fun i => v (cube s o i) := funext fun i => congrArg v (lift_cube s o i)
  have e3 : (constant S_ .f32 0xFF800000#32 : FVec Ideal S_ .f32) (Shape.Idx.first h_S_) = ⊥ := ofBits_bot
  rw [e2, e3]
  rfl

theorem firstH_apply (v : FVec Ideal S2x1024x100000 .f32) (s : Fin 2) (o : Fin 1024) (k : Fin 100000)
    (hk : IsFirst (fun i => v (cube s o i)) k) : firstH v (duo s o) = BitVec.ofNat 32 k.val := by
  have hmax : ∀ i, maxH v (cube s o i) = v (cube s o k) := fun i => by
    rw [maxH_apply]
    exact fold_max_eq _ _ hk.1 ⟨k, rfl⟩
  unfold firstH
  rw [Host.reduce_eq_fold_single IntOp.minsi _ _ reducesTo_S2x1024x100000_S2x1024_d2 red_cube]
  have e3 : (constantI S_ 32 2147483647#32) (Shape.Idx.first h_S_) = 2147483647#32 := rfl
  rw [e3]
  refine first_of_min (by decide) _ k hk _ fun i => ?_
  refine (congrArg (select (cmpf .oeq v (maxH v)) (iotaInDim S2x1024x100000 32 2) (allH bcast_S_S2x1024x100000 (constantI S_ 32 100000#32)))
    (lift_cube s o i)).trans ?_
  have e : select (cmpf .oeq v (maxH v)) (iotaInDim S2x1024x100000 32 2) (allH bcast_S_S2x1024x100000 (constantI S_ 32 100000#32)) (cube s o i)
      = Scalar.select (FloatOps.cmpf .oeq (v (cube s o i)) (maxH v (cube s o i))) (BitVec.ofNat 32 i.val)
        (allH bcast_S_S2x1024x100000 (constantI S_ 32 100000#32) (cube s o i)) := rfl
  rw [e, hmax, allH_apply, Ideal.cmpf_def, select_oeq]
  rfl

/-- The samples: the first position at which the row's perturbed entries attain their maximum. -/
theorem samples_apply (s : Fin 2) (o : Fin 1024) (M : ℝ) (hM : rowMax (tab x0 o) = M) (k : Fin 100000)
    (hk : IsFirst (score (tab x0) s.val o) k) (j : S1024x2.Idx) (h0 : (j 0).val = o.val) (h1 : (j 1).val = s.val) :
    val_main_v131 (F := Ideal) x0 j = BitVec.ofNat 32 k.val := by
  obtain ⟨L, hL⟩ := logSum_real (tab x0 o) M hM
  have hv : ∀ i, val_main_v123 (F := Ideal) x0 (cube s o i) = score (tab x0) s.val o i + ((-M - L : ℝ) : EReal) := by
    intro i
    rw [perturbed_apply, logits_apply, hM, hL, shifted _ _ _ _ (hM ▸ rowMax_le (tab x0 o) i), score]
  have e : idx_main_v131 j = duo s o := funext fun a => Fin.ext (by match a with | ⟨0, _⟩ => exact h1 | ⟨1, _⟩ => exact h0)
  rw [val_main_v131_apply, e, first_eq]
  exact firstH_apply _ s o k ((IsFirst.shift _ hv).mpr hk)

end Cert.ReferenceProof

end
-- ==== Proof.Precondition.lean ====
/-
  What the precondition says: every row of the table has a maximum that is a number.
-/
module

public import proofs.«01_k».proof.Pre_row_max_finite
public import proofs.«01_k».proof.Proof.ReferenceValue

@[expose] public section

set_option maxHeartbeats 400000

noncomputable section

namespace Cert.ReferenceProof

open Cert.Draws
open Idealize.ShloMosaic Idealize.ShloMosaic.TcCoe Idealize.ShloMosaic.Tactic

variable [Cert.Pre_row_max_finite.Facts] (a0 : FVec Ideal Cert.Pre_row_max_finite.S1024x100000 .f32)
  (a1 : FVec Ideal Cert.Pre_row_max_finite.S1024 .f32)

/-- A conjunction of two comparisons that is one. -/
theorem both_ones (a b c : EReal) (h : IntOp.andi (Ideal.cmp .ogt a b) (Ideal.cmp .olt a c) = 1#1) : b < a ∧ a < c := by
  by_cases h1 : b < a <;> by_cases h2 : a < c <;> simp_all [Ideal.cmp, IntOp.andi]

/-- The row maximum that the precondition compares. -/
theorem pre_rowMax (o : Fin 1024) : Host.reduce (FloatOps.maximumf (F := Ideal) (φ := .f32)) a0
    (constant (F := Ideal) Cert.Pre_row_max_finite.S_ .f32 0xFF800000#32) Cert.Pre_row_max_finite.Facts.reducesTo_S1024x100000_S1024_d1
    Cert.Pre_row_max_finite.Facts.h_S_ (vec o) = rowMax (tab a0 o) := by
  rw [Host.reduce_eq_fold_single (FloatOps.maximumf (F := Ideal) (φ := .f32)) a0 _ Cert.Pre_row_max_finite.Facts.reducesTo_S1024x100000_S1024_d1 red_row]
  have e : (a0 ∘ red_row.lift (vec o)) = tab a0 o := funext fun i => congrArg a0 (lift_row o i)
  rw [e]
  show Finset.univ.fold max (Ideal.ofBits .f32 0xFF800000#32) _ = _
  rw [ofBits_bot]
  rfl

theorem ones_at (v b t : FVec Ideal Cert.Pre_row_max_finite.S1024 .f32) (h : andi (cmpf .ogt v b) (cmpf .olt v t) = fun _ => 1#1)
    (j : Cert.Pre_row_max_finite.S1024.Idx) : b j < v j ∧ v j < t j := both_ones _ _ _ (congrFun h j)

theorem const_at (w : BitVec 32) (hb : Cert.Pre_row_max_finite.S_.BroadcastsInDim Cert.Pre_row_max_finite.S1024 ![])
    (j : Cert.Pre_row_max_finite.S1024.Idx) : broadcastInDim Cert.Pre_row_max_finite.S1024 ![] hb
      (constant (F := Ideal) Cert.Pre_row_max_finite.S_ .f32 w) j = Ideal.ofBits .f32 w := rfl

/-- Under the precondition every row's maximum is a number. -/
theorem rowMax_finite (h : Cert.Pre_row_max_finite.fn (F := Ideal) a0 a1 = fun _ => 1#1) (o : Fin 1024) :
    ∃ M : ℝ, rowMax (tab a0 o) = M := by
  unfold Cert.Pre_row_max_finite.fn at h
  have k := ones_at _ _ _ h (vec o)
  rw [const_at, const_at, ofBits_bot, ofBits_top] at k
  have h1 := lt_of_lt_of_eq k.1 (pre_rowMax a0 o)
  have h2 := lt_of_eq_of_lt (pre_rowMax a0 o).symm k.2
  exact ⟨(rowMax (tab a0 o)).toReal, (EReal.coe_toReal h2.ne h1.ne').symm⟩

end Cert.ReferenceProof

end
-- ==== Proof.lean ====
/-
  The proof of `Cert.Claim`: the frames of the kernel, of its idealization and of the reference, that the idealization is
  the kernel unchanged, and that the two idealized programs leave the same results.
-/
module

public import proofs.«01_k».proof.Defs
public import proofs.«01_k».proof.Proof.KernelFrame
public import proofs.«01_k».proof.Proof.KernelIdealFrame
public import proofs.«01_k».proof.Proof.KernelRun
public import proofs.«01_k».proof.Proof.Precondition
public import proofs.«01_k».proof.Proof.Gen.ReferenceIdeal.Run
public import proofs.«01_k».proof.Proof.Gen.ReferenceIdeal.Read
public import Idealize.ShloMosaic.Lib.Quiescent

@[expose] public section

set_option maxHeartbeats 400000

noncomputable section

namespace Cert.Proof

open Idealize.ShloMosaic Idealize.SL.Sem

/-- The reference ends with its arguments unchanged; it declares no semaphore. -/
theorem reference_frame {F : FTy → Type} [FloatOps F] (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) ∧ r.2.sem = fun _ => 0) :=
  (θ_run (Cert.ReferenceIdeal.defs (F := F)) _ _).mono
    (fun r h => ⟨fun c => ⟨(h c).2.2.1, (h c).2.2.2⟩, sem_eq_zero_of_no_sems (by decide) r.2⟩)
    (Cert.ReferenceIdeal.Value.run m ρ)

section Values

open Cert.ReferenceIdeal Cert.ReferenceIdeal.Read

variable (m : (ℓ : Loc nD τ sig) → Buf (Elt Ideal) ℓ) (ρ : Dev nD → PrngReg)

/-- The reference's results, as the stages of its computation read at its arguments. -/
theorem reference_run : θ_run (Cert.ReferenceIdeal.defs (F := Ideal)) (onTc (τ := τ) (main (F := Ideal))) ⟨m, fun _ => 0, ρ⟩ (fun r => ∀ c : Dev nD,
      r.2.mem ((c.tc : Thread nD τ).loc main_v131) = val_main_v131 (F := Ideal) (m ((c.tc : Thread nD τ).loc main_arg0))
      ∧ r.2.mem ((c.tc : Thread nD τ).loc main_v190) = val_main_v190 (F := Ideal) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.ReferenceIdeal.defs (F := Ideal)) _ _).mono
    (fun r h c => ⟨((h c).1.trans (val_main_v131_eq (F := Ideal) (StableHlo.launchContents m c))).trans
        (congrArg (val_main_v131 (F := Ideal)) (StableHlo.launchContents_devRef m c main_arg0)),
      ((h c).2.1.trans (val_main_v190_eq (F := Ideal) (StableHlo.launchContents m c))).trans
        (congrArg (val_main_v190 (F := Ideal)) (StableHlo.launchContents_devRef m c main_arg1)), (h c).2.2⟩)
    (Cert.ReferenceIdeal.Value.run m ρ)

end Values

section Agree

open Cert.KernelIdeal Cert.KernelIdeal.Gen Cert.KernelIdealProof Cert.ReferenceProof Cert.Draws

variable (m : (ℓ : Loc nD τ sig) → Buf (Elt Ideal) ℓ)

/-- The table the region finds is the argument. -/
theorem table_eq (c : Dev nD) : table m c = tab (m ((c.tc : Thread nD τ).loc main_arg0)) := by
  funext o k
  exact congrFun (V_main_arg0 m c) (entry o k)

theorem samples_agree (c : Dev nD) (hM : ∀ o, ∃ M : ℝ, rowMax (table m c o) = M) :
    samplesOf m c = Cert.ReferenceIdeal.Read.val_main_v131 (F := Ideal) (m ((c.tc : Thread nD τ).loc main_arg0)) := by
  funext j
  obtain ⟨M, hM⟩ := hM (j 0)
  rw [table_eq] at hM
  unfold samplesOf
  rw [table_eq]
  exact (samples_apply _ (j 1) (j 0) M hM _ (firstAt_spec _ _ _) j rfl rfl).symm

theorem nots_agree (c : Dev nD) :
    notsOf m c = Cert.ReferenceIdeal.Read.val_main_v190 (F := Ideal) (m ((c.tc : Thread nD τ).loc main_arg1)) := by
  funext j
  have hj : j = vec (j 0) := funext fun a => match a with | ⟨0, _⟩ => rfl
  rw [hj]
  exact (nots_apply _ (j 0)).symm

end Agree

/-- The precondition's facts. -/
theorem pre_facts : Cert.Pre_row_max_finite.Facts := ⟨by decide, by decide, by decide⟩

theorem claim : Cert.Claim := ⟨Cert.Kernel.Gen.facts, Cert.KernelIdeal.Gen.facts, Cert.ReferenceIdeal.Gen.facts, pre_facts,
  fun m ρ _ => Cert.KernelProof.frame_run m ρ,
  fun m ρ _ => Cert.KernelIdealProof.frame_run m ρ,
  fun m ρ _ => Cert.KernelIdealProof.frame_run m ρ,
  fun m ρ _ => reference_frame m ρ,
  fun m ρ _ => reference_frame m ρ,
  trivial,
  fun m g m' g' hpre hargs => by
    have hM : ∀ c o, ∃ M : ℝ, Cert.Draws.rowMax (Cert.KernelIdealProof.table m c o) = M := fun c o => by
      rw [table_eq]
      exact @Cert.ReferenceProof.rowMax_finite pre_facts _ _ (hpre c) o
    refine ⟨fun c => Cert.KernelIdealProof.samplesOf m c, fun c => Cert.KernelIdealProof.notsOf m c,
      Cert.KernelIdealProof.value_run m g hM, ?_⟩
    refine (θ_run (Cert.ReferenceIdeal.defs (F := Ideal)) _ _).mono (fun r h c => ?_) (reference_run m' g')
    obtain ⟨h0, h1, h2⟩ := h c
    refine ⟨h0.trans ?_, h1.trans ?_, h2⟩
    · exact (congrArg (Cert.ReferenceIdeal.Read.val_main_v131 (F := Ideal)) (hargs c).1).trans (samples_agree m c (hM c)).symm
    · exact (congrArg (Cert.ReferenceIdeal.Read.val_main_v190 (F := Ideal)) (hargs c).2).trans (nots_agree m c).symm⟩

end Cert.Proof

end
